-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1536, 3072]⟩ ⟨2, ![1536, 24576]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 3072]⟩ ⟨2, ![1536, 24576]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![3072, 1536]⟩ ⟨2, ![24576, 1536]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1536 : Shape := ⟨2, ![1536, 1536]⟩
abbrev S1536x3072 : Shape := ⟨2, ![1536, 3072]⟩
abbrev S3072x1536 : Shape := ⟨2, ![3072, 1536]⟩
abbrev S2x192x1536 : Shape := ⟨3, ![2, 192, 1536]⟩
abbrev S7 : Shape := ⟨1, ![7]⟩
abbrev S4 : Shape := ⟨1, ![4]⟩
abbrev S3 : Shape := ⟨1, ![3]⟩
abbrev S5 : Shape := ⟨1, ![5]⟩
abbrev S192x1536 : Shape := ⟨2, ![192, 1536]⟩
abbrev S192x3072 : Shape := ⟨2, ![192, 3072]⟩
abbrev S_ : Shape := ⟨0, ![]⟩
abbrev S1 : Shape := ⟨1, ![1]⟩
abbrev S1x192x1536 : Shape := ⟨3, ![1, 192, 1536]⟩

abbrev nBuf : Space → Nat
  | .hbm => 5
  | .vmem => 6
  | .smem => 0
  | _ => 0

abbrev bufTy : (tb : Table) → Fin (tcTables nBuf tb) → BufTy
  | .hbm, ⟨0, _⟩ => ⟨S1536x1536, .bf16⟩
  | .hbm, ⟨1, _⟩ => ⟨S1536x3072, .bf16⟩
  | .hbm, ⟨2, _⟩ => ⟨S1536x3072, .bf16⟩
  | .hbm, ⟨3, _⟩ => ⟨S3072x1536, .bf16⟩
  | .hbm, ⟨4, _⟩ => ⟨S1536x1536, .bf16⟩
  | .local _ .vmem, ⟨0, _⟩ => ⟨S1536x1536, .bf16⟩
  | .local _ .vmem, ⟨1, _⟩ => ⟨S1536x3072, .bf16⟩
  | .local _ .vmem, ⟨2, _⟩ => ⟨S1536x3072, .bf16⟩
  | .local _ .vmem, ⟨3, _⟩ => ⟨S3072x1536, .bf16⟩
  | .local _ .vmem, ⟨4, _⟩ => ⟨S1536x1536, .bf16⟩
  | .local _ .vmem, ⟨5, _⟩ => ⟨S2x192x1536, .bf16⟩
  | _, _ => ⟨S1536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 6 33 bufScoped semScoped dmaSemScoped tileCredit tileCredit_eq_zero tileCredit_pos).withBarriers [(0, 5)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 5

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_13 : BitVec 32 := 8#32
  let c0_i32_14 : BitVec 32 := 0#32
  let v25 : BitVec 1 := Scalar.cmpi .eq c8_i32_13 c0_i32_14
  let c1_i32_15 : BitVec 32 := 1#32
  let v26 : BitVec 32 := Scalar.select v25 c1_i32_15 c8_i32_13
  let v27 : BitVec 32 := Scalar.remsi v2 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c192_i32 : BitVec 32 := 192#32
  let v35 : BitVec 32 := Scalar.muli v34 c192_i32
  let v36 : Index := Scalar.indexCast v35
  let c0 : Index := 0#32
  ![v36.toNat, 0]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v56 : BitVec 32 := Scalar.muli v13 c1_i32_29
  let v57 : BitVec 32 := Scalar.addi c0_i32_30 v56
  v57.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v58 : BitVec 32 := Scalar.muli v24 c1_i32_32
  let v59 : BitVec 32 := Scalar.addi c0_i32_33 v58
  v59.toNat
@[reducible] def k0_t1_loop : Scf.Loop 32 :=
  let c0_i32_34 : BitVec 32 := 0#32
  let c7_i32 : BitVec 32 := 7#32
  let v60 : BitVec 32 := Scalar.addi c0_i32_34 c7_i32
  let c1_i32_35 : BitVec 32 := 1#32
  ⟨c0_i32_34, v60, c1_i32_35⟩
def k0_cond1 (k0_t1 : Fin k0_t1_loop.trips) : BitVec 1 :=
  let c0_i32_34 : BitVec 32 := 0#32
  let c1_i32_35 : BitVec 32 := 1#32
  let arg13 : BitVec 32 := Scf.iv c0_i32_34 c1_i32_35 k0_t1
  let c2_i32_218 : BitVec 32 := 2#32
  let v278 : BitVec 1 := Scalar.cmpi .sge arg13 c2_i32_218
  let v279 : BitVec 32 := Scalar.extui v278
  let c0_i32_219 : BitVec 32 := 0#32
  let v280 : BitVec 1 := Scalar.cmpi .ne v279 c0_i32_219
  v280

def k0_off2 (k0_t1 : Fin k0_t1_loop.trips) : Fin 1 → Nat :=
  let c0_i32_34 : BitVec 32 := 0#32
  let c1_i32_35 : BitVec 32 := 1#32
  let arg13 : BitVec 32 := Scf.iv c0_i32_34 c1_i32_35 k0_t1
  let c2_i32_278 : BitVec 32 := 2#32
  let v379 : BitVec 32 := Scalar.subi arg13 c2_i32_278
  ![v379.toNat]
def k0_off3 (k0_t1 : Fin k0_t1_loop.trips) : Fin 1 → Nat :=
  let c0_i32_34 : BitVec 32 := 0#32
  let c1_i32_35 : BitVec 32 := 1#32
  let arg13 : BitVec 32 := Scf.iv c0_i32_34 c1_i32_35 k0_t1
  ![arg13.toNat]
def k0_off4 (k0_t1 : Fin k0_t1_loop.trips) : Fin 3 → Nat :=
  let c0_i32_34 : BitVec 32 := 0#32
  let c1_i32_35 : BitVec 32 := 1#32
  let arg13 : BitVec 32 := Scf.iv c0_i32_34 c1_i32_35 k0_t1
  let c2_i32_227 : BitVec 32 := 2#32
  let c0_i32_228 : BitVec 32 := 0#32
  let v293 : BitVec 1 := Scalar.cmpi .eq c2_i32_227 c0_i32_228
  let c1_i32_229 : BitVec 32 := 1#32
  let v294 : BitVec 32 := Scalar.select v293 c1_i32_229 c2_i32_227
  let v295 : BitVec 32 := Scalar.remsi arg13 v294
  let c0_i32_231 : BitVec 32 := 0#32
  let v297 : BitVec 1 := Scalar.cmpi .slt v295 c0_i32_231
  let c0_i32_232 : BitVec 32 := 0#32
  let v298 : BitVec 1 := Scalar.cmpi .slt v294 c0_i32_232
  let v299 : BitVec 1 := Scalar.xori v297 v298
  let c0_i32_230 : BitVec 32 := 0#32
  let v296 : BitVec 1 := Scalar.cmpi .ne v295 c0_i32_230
  let v300 : BitVec 1 := Scalar.andi v299 v296
  let v301 : BitVec 32 := Scalar.addi v295 v294
  let v302 : BitVec 32 := Scalar.select v300 v301 v295
  let c0_i32_235 : BitVec 32 := 0#32
  let c0_i32_236 : BitVec 32 := 0#32
  ![v302.toNat, 0, 0]
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c1_i32_35 : BitVec 32 := 1#32
  let arg13 : BitVec 32 := Scf.iv c0_i32_34 c1_i32_35 k0_t1
  let v281 : BitVec 32 := Scalar.subi v2 arg13
  let c8_i32_220 : BitVec 32 := 8#32
  let c0_i32_221 : BitVec 32 := 0#32
  let v282 : BitVec 1 := Scalar.cmpi .eq c8_i32_220 c0_i32_221
  let c1_i32_222 : BitVec 32 := 1#32
  let v283 : BitVec 32 := Scalar.select v282 c1_i32_222 c8_i32_220
  let v284 : BitVec 32 := Scalar.remsi v281 v283
  let c0_i32_224 : BitVec 32 := 0#32
  let v286 : BitVec 1 := Scalar.cmpi .slt v284 c0_i32_224
  let c0_i32_225 : BitVec 32 := 0#32
  let v287 : BitVec 1 := Scalar.cmpi .slt v283 c0_i32_225
  let v288 : BitVec 1 := Scalar.xori v286 v287
  let c0_i32_223 : BitVec 32 := 0#32
  let v285 : BitVec 1 := Scalar.cmpi .ne v284 c0_i32_223
  let v289 : BitVec 1 := Scalar.andi v288 v285
  let v290 : BitVec 32 := Scalar.addi v284 v283
  let v291 : BitVec 32 := Scalar.select v289 v290 v284
  let c192_i32_226 : BitVec 32 := 192#32
  let v292 : BitVec 32 := Scalar.muli v291 c192_i32_226
  let c0_i32_237 : BitVec 32 := 0#32
  ![v292.toNat, 0]
def k0_dev3 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_233 : BitVec 32 := 1#32
  let v303 : BitVec 32 := Scalar.muli v24 c1_i32_233
  let v304 : BitVec 32 := Scalar.addi c0_i32_234 v303
  v304.toNat
def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c1_i32_35 : BitVec 32 := 1#32
  let arg13 : BitVec 32 := Scf.iv c0_i32_34 c1_i32_35 k0_t1
  let v312 : BitVec 32 := Scalar.subi v2 arg13
  let c1_i32_238 : BitVec 32 := 1#32
  let v313 : BitVec 32 := Scalar.subi v312 c1_i32_238
  let c8_i32_239 : BitVec 32 := 8#32
  let c0_i32_240 : BitVec 32 := 0#32
  let v314 : BitVec 1 := Scalar.cmpi .eq c8_i32_239 c0_i32_240
  let c1_i32_241 : BitVec 32 := 1#32
  let v315 : BitVec 32 := Scalar.select v314 c1_i32_241 c8_i32_239
  let v316 : BitVec 32 := Scalar.remsi v313 v315
  let c0_i32_243 : BitVec 32 := 0#32
  let v318 : BitVec 1 := Scalar.cmpi .slt v316 c0_i32_243
  let c0_i32_244 : BitVec 32 := 0#32
  let v319 : BitVec 1 := Scalar.cmpi .slt v315 c0_i32_244
  let v320 : BitVec 1 := Scalar.xori v318 v319
  let c0_i32_242 : BitVec 32 := 0#32
  let v317 : BitVec 1 := Scalar.cmpi .ne v316 c0_i32_242
  let v321 : BitVec 1 := Scalar.andi v320 v317
  let v322 : BitVec 32 := Scalar.addi v316 v315
  let v323 : BitVec 32 := Scalar.select v321 v322 v316
  let c192_i32_245 : BitVec 32 := 192#32
  let v324 : BitVec 32 := Scalar.muli v323 c192_i32_245
  let v325 : Index := Scalar.indexCast v324
  let c0_246 : Index := 0#32
  ![v325.toNat, 0]
def k0_off7 (k0_t1 : Fin k0_t1_loop.trips) : Fin 3 → Nat :=
  let c0_i32_34 : BitVec 32 := 0#32
  let c1_i32_35 : BitVec 32 := 1#32
  let arg13 : BitVec 32 := Scf.iv c0_i32_34 c1_i32_35 k0_t1
  let c2_i32_264 : BitVec 32 := 2#32
  let c0_i32_265 : BitVec 32 := 0#32
  let v355 : BitVec 1 := Scalar.cmpi .eq c2_i32_264 c0_i32_265
  let c1_i32_266 : BitVec 32 := 1#32
  let v356 : BitVec 32 := Scalar.select v355 c1_i32_266 c2_i32_264
  let v357 : BitVec 32 := Scalar.remsi arg13 v356
  let c0_i32_268 : BitVec 32 := 0#32
  let v359 : BitVec 1 := Scalar.cmpi .slt v357 c0_i32_268
  let c0_i32_269 : BitVec 32 := 0#32
  let v360 : BitVec 1 := Scalar.cmpi .slt v356 c0_i32_269
  let v361 : BitVec 1 := Scalar.xori v359 v360
  let c0_i32_267 : BitVec 32 := 0#32
  let v358 : BitVec 1 := Scalar.cmpi .ne v357 c0_i32_267
  let v362 : BitVec 1 := Scalar.andi v361 v358
  let v363 : BitVec 32 := Scalar.addi v357 v356
  let v364 : BitVec 32 := Scalar.select v362 v363 v357
  let v365 : Index := Scalar.indexCast v364
  let c0_270 : Index := 0#32
  let c0_271 : Index := 0#32
  ![v365.toNat, 0, 0]
def k0_cond2 (k0_t1 : Fin k0_t1_loop.trips) : BitVec 1 :=
  let c0_i32_34 : BitVec 32 := 0#32
  let c1_i32_35 : BitVec 32 := 1#32
  let arg13 : BitVec 32 := Scf.iv c0_i32_34 c1_i32_35 k0_t1
  let c5_i32 : BitVec 32 := 5#32
  let v371 : BitVec 1 := Scalar.cmpi .slt arg13 c5_i32
  let v372 : BitVec 32 := Scalar.extui v371
  let c0_i32_273 : BitVec 32 := 0#32
  let v373 : BitVec 1 := Scalar.cmpi .ne v372 c0_i32_273
  v373

def k0_off8 (k0_t1 : Fin k0_t1_loop.trips) : Fin 1 → Nat :=
  let c0_i32_34 : BitVec 32 := 0#32
  let c1_i32_35 : BitVec 32 := 1#32
  let arg13 : BitVec 32 := Scf.iv c0_i32_34 c1_i32_35 k0_t1
  ![arg13.toNat]
def k0_dev4 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_279 : BitVec 32 := 1#32
  let v381 : BitVec 32 := Scalar.muli v13 c1_i32_279
  let v382 : BitVec 32 := Scalar.addi c0_i32_280 v381
  v382.toNat
def k0_off9 (d0 : Dev nD) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v61 : BitVec 32 := Scalar.addi v2 c1_i32_37
  let v62 : BitVec 32 := Scalar.subi v61 c0_i32_38
  let c8_i32_39 : BitVec 32 := 8#32
  let c0_i32_40 : BitVec 32 := 0#32
  let v63 : BitVec 1 := Scalar.cmpi .eq c8_i32_39 c0_i32_40
  let c1_i32_41 : BitVec 32 := 1#32
  let v64 : BitVec 32 := Scalar.select v63 c1_i32_41 c8_i32_39
  let v65 : BitVec 32 := Scalar.remsi v62 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c192_i32_45 : BitVec 32 := 192#32
  let v73 : BitVec 32 := Scalar.muli v72 c192_i32_45
  let c0_i32_50 : BitVec 32 := 0#32
  ![v73.toNat, 0]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v74 : BitVec 32 := Scalar.muli v24 c1_i32_48
  let v75 : BitVec 32 := Scalar.addi c0_i32_49 v74
  v75.toNat
def k0_off10 (d0 : Dev nD) (c0_i32_53 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_52 : BitVec 32 := 1#32
  let v82 : BitVec 32 := Scalar.addi v2 c1_i32_52
  let v83 : BitVec 32 := Scalar.addi v82 c0_i32_53
  let c8_i32_54 : BitVec 32 := 8#32
  let c0_i32_55 : BitVec 32 := 0#32
  let v84 : BitVec 1 := Scalar.cmpi .eq c8_i32_54 c0_i32_55
  let c1_i32_56 : BitVec 32 := 1#32
  let v85 : BitVec 32 := Scalar.select v84 c1_i32_56 c8_i32_54
  let v86 : BitVec 32 := Scalar.remsi v83 v85
  let c0_i32_58 : BitVec 32 := 0#32
  let v88 : BitVec 1 := Scalar.cmpi .slt v86 c0_i32_58
  let c0_i32_59 : BitVec 32 := 0#32
  let v89 : BitVec 1 := Scalar.cmpi .slt v85 c0_i32_59
  let v90 : BitVec 1 := Scalar.xori v88 v89
  let c0_i32_57 : BitVec 32 := 0#32
  let v87 : BitVec 1 := Scalar.cmpi .ne v86 c0_i32_57
  let v91 : BitVec 1 := Scalar.andi v90 v87
  let v92 : BitVec 32 := Scalar.addi v86 v85
  let v93 : BitVec 32 := Scalar.select v91 v92 v86
  let c192_i32_60 : BitVec 32 := 192#32
  let v94 : BitVec 32 := Scalar.muli v93 c192_i32_60
  let c0_i32_65 : BitVec 32 := 0#32
  ![v94.toNat, 0]
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v95 : BitVec 32 := Scalar.muli v13 c1_i32_63
  let v96 : BitVec 32 := Scalar.addi c0_i32_64 v95
  v96.toNat
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v128 : BitVec 32 := Scalar.muli v24 c1_i32_90
  let v129 : BitVec 32 := Scalar.addi c0_i32_91 v128
  v129.toNat
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_105 : BitVec 32 := 1#32
  let v149 : BitVec 32 := Scalar.muli v13 c1_i32_105
  let v150 : BitVec 32 := Scalar.addi c0_i32_106 v149
  v150.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v182 : BitVec 32 := Scalar.muli v24 c1_i32_132
  let v183 : BitVec 32 := Scalar.addi c0_i32_133 v182
  v183.toNat
def k0_dev10 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_147 : BitVec 32 := 1#32
  let v203 : BitVec 32 := Scalar.muli v13 c1_i32_147
  let v204 : BitVec 32 := Scalar.addi c0_i32_148 v203
  v204.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_173 : BitVec 32 := 1#32
  let v236 : BitVec 32 := Scalar.muli v24 c1_i32_173
  let v237 : BitVec 32 := Scalar.addi c0_i32_174 v236
  v237.toNat
abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1536x1536 : Shape := ⟨2, ![1536, 1536]⟩
abbrev S1536x24576 : Shape := ⟨2, ![1536, 24576]⟩
abbrev S24576x1536 : Shape := ⟨2, ![24576, 1536]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1536x1536, .bf16⟩
  | .hbm, ⟨1, _⟩ => ⟨S1536x24576, .bf16⟩
  | .hbm, ⟨2, _⟩ => ⟨S1536x24576, .bf16⟩
  | .hbm, ⟨3, _⟩ => ⟨S24576x1536, .bf16⟩
  | .hbm, ⟨4, _⟩ => ⟨S1536x24576, .f32⟩
  | .hbm, ⟨5, _⟩ => ⟨S1536x24576, .f32⟩
  | .hbm, ⟨6, _⟩ => ⟨S1536x24576, .f32⟩
  | .hbm, ⟨7, _⟩ => ⟨S1536x24576, .f32⟩
  | .hbm, ⟨8, _⟩ => ⟨S_, .f32⟩
  | .hbm, ⟨9, _⟩ => ⟨S1536x24576, .f32⟩
  | .hbm, ⟨10, _⟩ => ⟨S1536x24576, .f32⟩
  | .hbm, ⟨11, _⟩ => ⟨S1536x24576, .f32⟩
  | .hbm, ⟨12, _⟩ => ⟨S1536x24576, .f32⟩
  | .hbm, ⟨13, _⟩ => ⟨S1536x24576, .bf16⟩
  | .hbm, ⟨14, _⟩ => ⟨S1536x1536, .f32⟩
  | .hbm, ⟨15, _⟩ => ⟨S1536x1536, .bf16⟩
  | _, _ => ⟨S1536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Ideal.Base.lean ====
/- The devices of the ring, the printed offsets in closed form, the rows of the result buffer and the two slots of the
   receive buffer as memrefs, and the contents that the messages of the exchange carry. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Rounds.Family
public import Idealize.ShloMosaic.Lib.MemrefSat
public import Idealize.ShloMosaic.Lib.Ring
public import Idealize.ShloMosaic.Lib.Scf
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of devices -/

/-- The device `k` places further round the ring; the same numbers name the eight row blocks of the result. -/
def rot (c : Dev nD) (k : ℕ) : Dev nD := ⟨(c.val + k) % 8, Nat.mod_lt _ (by decide)⟩

theorem rot_val (c : Dev nD) (k : ℕ) : (rot c k).val = (c.val + k) % 8 := rfl
theorem rot_rot (c : Dev nD) (a b : ℕ) : rot (rot c a) b = rot c (a + b) :=
  Fin.ext (by simp only [rot_val]; omega)
theorem rot_zero (c : Dev nD) : rot c 0 = c := Fin.ext (by rw [rot_val]; have : c.val < 8 := c.isLt; omega)
theorem rot_mod (c : Dev nD) {a b : ℕ} (h : a % 8 = b % 8) : rot c a = rot c b :=
  Fin.ext (by simp only [rot_val]; omega)
theorem rot_self (c : Dev nD) {a : ℕ} (h : a % 8 = 0) : rot c a = c := (rot_mod c (b := 0) h).trans (rot_zero c)
theorem rot_inj (c : Dev nD) {a b : ℕ} (ha : a < 8) (hb : b < 8) (h : rot c a = rot c b) : a = b := by
  have := congrArg Fin.val h; simp only [rot_val] at this; omega

/-! ## The printed devices and offsets -/

theorem dev1_eq (c : Dev nD) : (⟨k0_dev1 c, k0_dev1_lt c⟩ : Dev nD) = rot c 7 := Fin.ext (by revert c; decide +kernel)
theorem dev2_eq (c : Dev nD) : (⟨k0_dev2 c, k0_dev2_lt c⟩ : Dev nD) = rot c 1 := Fin.ext (by revert c; decide +kernel)
theorem dev3_eq (c : Dev nD) : (⟨k0_dev3 c, k0_dev3_lt c⟩ : Dev nD) = rot c 1 := Fin.ext (by revert c; decide +kernel)
theorem dev4_val (c : Dev nD) : k0_dev4 c = (rot c 7).val := by revert c; decide +kernel
theorem dev4_eq (c : Dev nD) (h : k0_dev4 c < nD) : (⟨k0_dev4 c, h⟩ : Dev nD) = rot c 7 := Fin.ext (dev4_val c)
theorem dev5_eq (c : Dev nD) : (⟨k0_dev5 c, k0_dev5_lt c⟩ : Dev nD) = rot c 1 := Fin.ext (by revert c; decide +kernel)
theorem dev6_eq (c : Dev nD) : (⟨k0_dev6 c, k0_dev6_lt c⟩ : Dev nD) = rot c 7 := Fin.ext (by revert c; decide +kernel)
theorem dev7_eq (c : Dev nD) : (⟨k0_dev7 c, k0_dev7_lt c⟩ : Dev nD) = rot c 1 := Fin.ext (by revert c; decide +kernel)
theorem dev8_eq (c : Dev nD) : (⟨k0_dev8 c, k0_dev8_lt c⟩ : Dev nD) = rot c 7 := Fin.ext (by revert c; decide +kernel)
theorem dev9_eq (c : Dev nD) : (⟨k0_dev9 c, k0_dev9_lt c⟩ : Dev nD) = rot c 1 := Fin.ext (by revert c; decide +kernel)
theorem dev10_eq (c : Dev nD) : (⟨k0_dev10 c, k0_dev10_lt c⟩ : Dev nD) = rot c 7 := Fin.ext (by revert c; decide +kernel)
theorem dev11_eq (c : Dev nD) : (⟨k0_dev11 c, k0_dev11_lt c⟩ : Dev nD) = rot c 1 := Fin.ext (by revert c; decide +kernel)

theorem trips_eq : k0_t1_loop.trips = 7 := by decide
theorem trip_lt (t : Fin k0_t1_loop.trips) : t.val < 7 := trips_eq ▸ t.isLt

theorem off1_eq (c : Dev nD) : k0_off1 c = ![192 * (rot c 0).val, 0] := by revert c; decide +kernel
theorem off5_eq (c : Dev nD) (t : Fin k0_t1_loop.trips) : k0_off5 c t = ![192 * (rot c (8 - t.val)).val, 0] := by
  revert c t; decide +kernel
theorem off6_eq (c : Dev nD) (t : Fin k0_t1_loop.trips) : k0_off6 c t = ![192 * (rot c (7 - t.val)).val, 0] := by
  revert c t; decide +kernel
theorem off4_eq (t : Fin k0_t1_loop.trips) : k0_off4 t = ![t.val % 2, 0, 0] := by revert t; decide +kernel
theorem off7_eq (t : Fin k0_t1_loop.trips) : k0_off7 t = ![t.val % 2, 0, 0] := by revert t; decide +kernel
theorem off3_eq (t : Fin k0_t1_loop.trips) : k0_off3 t = ![t.val] := by revert t; decide +kernel
theorem off9_eq (c : Dev nD) (r : Fin 4) : k0_off9 c (BitVec.ofNat 32 r.val) = ![192 * (rot c (9 - r.val)).val, 0] := by
  revert c r; decide +kernel
theorem off10_eq (c : Dev nD) (r : Fin 3) : k0_off10 c (BitVec.ofNat 32 r.val) = ![192 * (rot c (1 + r.val)).val, 0] := by
  revert c r; decide +kernel
theorem cond1_iff (t : Fin k0_t1_loop.trips) : Iff (k0_cond1 t = 1#1) (2 ≤ t.val) := by revert t; decide +kernel
theorem cond2_iff (t : Fin k0_t1_loop.trips) : Iff (k0_cond2 t = 1#1) (t.val < 5) := by revert t; decide +kernel

/-! ## The resource algebra -/

abbrev UB : Type := Rounds.URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs: the staging buffers, the eight row blocks of the result, the two receive slots -/

abbrev xM : Memref sig .tc .vmem S1536x1536 .bf16 := Memref.whole cc0_stg0_0
abbrev gM : Memref sig .tc .vmem S1536x3072 .bf16 := Memref.whole cc0_stg1_0
abbrev uM : Memref sig .tc .vmem S1536x3072 .bf16 := Memref.whole cc0_stg2_0
abbrev dM : Memref sig .tc .vmem S3072x1536 .bf16 := Memref.whole cc0_stg3_0
abbrev oM : Memref sig .tc .vmem S1536x1536 .bf16 := Memref.whole cc0_stg4_0
abbrev bM : Memref sig .tc .vmem S2x192x1536 .bf16 := Memref.whole cc0_scratch0

/-- Row block `j`: 192 rows. -/
def rowR (j : Dev nD) : Rect S1536x1536 := Rect.unit (s := S1536x1536) ![192 * j.val, 0] S192x1536.size
  (by have : j.val < 8 := j.isLt
      intro i; fin_cases i <;> simp [S192x1536, S1536x1536] <;> omega)
theorem rowR_stride (j : Dev nD) : ∀ a, (rowR j).stride a = 1 := fun _ => rfl

abbrev Row (F : FTy → Type) : Type := S192x1536.Idx → Elt F .bf16

def rowM (j : Dev nD) : Memref sig .tc .vmem S192x1536 .bf16 := oM.slice (rowR j) (rowR_stride j)

/-- Receive slot `i`, as the block of the scratch that the kernel loads. -/
def slotR (i : Fin 2) : Rect S2x192x1536 := Rect.unit (s := S2x192x1536) ![i.val, 0, 0] S1x192x1536.size
  (by have : i.val < 2 := i.isLt
      intro a; fin_cases a <;> simp [S1x192x1536, S2x192x1536] <;> omega)
theorem slotR_stride (i : Fin 2) : ∀ a, (slotR i).stride a = 1 := fun _ => rfl
abbrev slot3M (i : Fin 2) : Memref sig .tc .vmem S1x192x1536 .bf16 := bM.slice (slotR i) (slotR_stride i)
/-- Receive slot `i`, as a transfer names it. -/
def slotM (i : Fin 2) : Memref sig .tc .vmem S192x1536 .bf16 := (slot3M i).squeeze S192x1536 squeezes_S1x192x1536_S192x1536

def par (s : ℕ) : Fin 2 := ⟨s % 2, Nat.mod_lt _ (by decide)⟩

def N : ℕ := (rowM 0).view.dmaCredit
theorem N_pos : 0 < N := View.dmaCredit_pos _ (by decide)
theorem N_row (j : Dev nD) : (rowM j).view.dmaCredit = N := rfl
theorem N_slot (i : Fin 2) : (slotM i).view.dmaCredit = N := by
  rfl

/-- Device `c` owns row block `j` of its result buffer at contents `X`. -/
def rowO (c j : Dev nD) (q : PosShare TreeShare) (X : Row F) : sProp 𝕄 := owns (c : Thread nD τ) (rowM j) q X
def rowA (c j : Dev nD) : sProp 𝕄 := iprop(∃ X : Row F, rowO c j fullShare X)
def slotO (c : Dev nD) (i : Fin 2) (X : Row F) : sProp 𝕄 := owns (c : Thread nD τ) (slotM i) fullShare X
def slotA (c : Dev nD) (i : Fin 2) : sProp 𝕄 := iprop(∃ X : Row F, slotO c i X)

instance rowO_storable (c j : Dev nD) (q) (X : Row F) : BI.Storable (upEmb : UEmb _ 𝕄) (rowO c j q X) := by unfold rowO; infer_instance
instance rowA_storable (c j : Dev nD) : BI.Storable (upEmb : UEmb _ 𝕄) (rowA (F := F) c j) := by unfold rowA; infer_instance
instance slotO_storable (c : Dev nD) (i) (X : Row F) : BI.Storable (upEmb : UEmb _ 𝕄) (slotO c i X) := by unfold slotO; infer_instance
instance slotA_storable (c : Dev nD) (i) : BI.Storable (upEmb : UEmb _ 𝕄) (slotA (F := F) c i) := by unfold slotA; infer_instance

/-! ## What the messages carry -/

/-- A received block as the kernel loads it from its slot. -/
def lift3 (X : Row F) : S1x192x1536.Idx → Elt F .bf16 :=
  fun i => X ((Shape.reshapeEquiv squeezes_S1x192x1536_S192x1536.numel_eq).symm i)

/-- The kernel's addition of a received block to its own. -/
def addV (a b : Row F) : Row F := k0_pay3 a (lift3 b)

/-- The partial sum device `c` holds after `s` steps of the reduce-scatter, `P d k` being device `d`'s own contribution
    to row block `k`: it then sits in row block `c - s`. -/
def acc (P : Dev nD → Dev nD → Row F) : ℕ → Dev nD → Row F
  | 0, c => P c (rot c 8)
  | s + 1, c => addV (P c (rot c (7 - s))) (acc P s (rot c 7))

/-- The finished row block `j`. -/
def fin (P : Dev nD → Dev nD → Row F) (j : Dev nD) : Row F := acc P 7 (rot j 7)

end Cert.KernelIdeal.Mlp

end
-- ==== Proof.Ideal.Sched.lean ====
/- The semaphores of the exchange as numbered cells, what each hands over, what each device owes and in which order the
   waits may be made. -/
module

public import proofs.«01_k».proof.Proof.Ideal.Base

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Numbered cells

`0`–`6` and `7`–`13`: the send and receive semaphores of the reduce-scatter's steps; `14`–`17` and `18`–`21`: of the
rightward gather; `22`–`24` and `25`–`27`: of the leftward gather; `28`–`32`: the acknowledgements; `33`: the runtime's
barrier semaphore. -/

def csem (k : ℕ) : SemLoc sig :=
  if h : k < 28 then .dma (⟨5 + k, show 5 + k < 33 by omega⟩ : Fin 33) else .reg (⟨(k - 28) % 6, Nat.mod_lt _ (by decide)⟩ : Fin 6)

def kidx : SemLoc sig → ℕ
  | .dma i => i.val - 5
  | .reg i => 28 + i.val

theorem kidx_csem {k : ℕ} (h : k < 34) : kidx (csem k) = k := by
  unfold csem; split
  · simp only [kidx]; omega
  · simp only [kidx]; omega

abbrev cell (c : Dev nD) (k : ℕ) : GSem nD τ sig := ((c : Thread nD τ), csem k)

theorem cell_inj {c c' : Dev nD} {k k' : ℕ} (h : k < 34) (h' : k' < 34) (he : cell c k = cell c' k') : c = c' ∧ k = k' := by
  refine ⟨congrArg (fun g : GSem nD τ sig => g.1.1) he, ?_⟩
  have := congrArg (fun g : GSem nD τ sig => kidx g.2) he
  simpa only [cell, kidx_csem h, kidx_csem h'] using this

/-- The amount of one duty of a cell, -/
def amt (k : ℕ) : ℕ := if k < 28 then N else 1
/-- and what the wait on it takes. -/
def expc (k : ℕ) : ℕ := if k = 33 then 2 else amt k

theorem amt_pos (k : ℕ) : 0 < amt k := by unfold amt; split; exacts [N_pos, Nat.one_pos]

/-! ## What a signal hands over -/

variable (P : Dev nD → Dev nD → Row F)

/-- The right to write row block `j` on the devices `rot o a`, `a` from `lo` on, `n` of them. -/
def rowsA (o j : Dev nD) (lo hi : ℕ) : sProp 𝕄 := bigSep (Finset.Ico lo hi) fun i => rowA (rot o i) j

instance rowsA_storable (o j : Dev nD) (lo hi : ℕ) : BI.Storable (upEmb : UEmb _ 𝕄) (rowsA (F := F) o j lo hi) := by
  unfold rowsA; infer_instance

/-- The share of the gathered row block a send holds: the first row is sent both ways at once. -/
def shR (t : ℕ) : PosShare TreeShare := if t = 0 then (fullShare : PosShare TreeShare).left else fullShare
def shL (t : ℕ) : PosShare TreeShare := if t = 0 then (fullShare : PosShare TreeShare).right else fullShare

/-- Step `s` of the reduce-scatter delivers to `c` its left neighbour's partial sum and that row block, no more needed,
    on every device the sum has passed. -/
def payRS (c : Dev nD) (s : ℕ) : sProp 𝕄 :=
  iprop(slotO c (par s) (acc P s (rot c 7)) ∗ rowsA (rot c (7 - s)) (rot c (7 - s)) 0 (s + 1))
def payRsnd (c : Dev nD) (t : ℕ) : sProp 𝕄 := rowO c (rot c (9 - t)) (shR t) (fin P (rot c (9 - t)))
def payRrcv (c : Dev nD) (t : ℕ) : sProp 𝕄 :=
  iprop(rowO c (rot c (8 - t)) fullShare (fin P (rot c (8 - t))) ∗ rowsA (rot c (7 - t)) (rot c (8 - t)) (t + 2) 5)
def payLsnd (c : Dev nD) (t : ℕ) : sProp 𝕄 := rowO c (rot c (1 + t)) (shL t) (fin P (rot c (1 + t)))
/-- The leftward rights are counted back from `rot c (1 + t)`, the device whose sum it is: `5` to `7` round from it. -/
def payLrcv (c : Dev nD) (t : ℕ) : sProp 𝕄 :=
  iprop(rowO c (rot c (2 + t)) fullShare (fin P (rot c (2 + t))) ∗ rowsA (rot c (1 + t)) (rot c (2 + t)) 5 (7 - t))
def payAck (c : Dev nD) (s : ℕ) : sProp 𝕄 := slotA (rot c 1) (par s)
def payBar (c : Dev nD) : sProp 𝕄 := iprop(slotA (rot c 1) (par 0) ∗ slotA (rot c 1) (par 1))

def pay (c : Dev nD) (k : ℕ) (d : Bool) : sProp 𝕄 :=
  if k < 7 then iprop(emp)
  else if k < 14 then payRS P c (k - 7)
  else if k < 18 then payRsnd P c (k - 14)
  else if k < 22 then payRrcv P c (k - 18)
  else if k < 25 then payLsnd P c (k - 22)
  else if k < 28 then payLrcv P c (k - 25)
  else if k < 33 then payAck c (k - 28)
  else if d then payBar c else iprop(emp)

instance pay_storable (c : Dev nD) (k : ℕ) (d : Bool) : BI.Storable (upEmb : UEmb _ 𝕄) (pay P c k d) := by
  unfold pay payRS payRsnd payRrcv payLsnd payLrcv payAck payBar
  (repeat' split) <;> infer_instance

def Rd : Rounds.Schedule (GSem nD τ sig) Bool 𝕄 where
  duties g r := if r = 0 then (if kidx g.2 = 33 then Finset.univ else {false}) else ∅
  unitless _ := False
  amount g _ _ := amt (kidx g.2)
  payload g _ d := pay P g.1.1 (kidx g.2) d
  amount_pos g _ _ _ := amt_pos _

instance Rd_payload_storable (g : GSem nD τ sig) (r : ℕ) (d : Bool) : BI.Storable (upEmb : UEmb _ 𝕄) ((Rd P).payload g r d) := by
  show BI.Storable upEmb (pay P g.1.1 (kidx g.2) d); infer_instance

section Facts
variable (c : Dev nD) {k : ℕ}

theorem duties_one (h : k < 33) : (Rd P).duties (cell c k) 0 = {false} := by
  show (if (0 : ℕ) = 0 then (if kidx (csem k) = 33 then Finset.univ else {false}) else ∅) = _
  rw [if_pos rfl, kidx_csem (by omega), if_neg (by omega)]
theorem duties_bar : (Rd P).duties (cell c 33) 0 = Finset.univ := by
  show (if (0 : ℕ) = 0 then (if kidx (csem 33) = 33 then Finset.univ else {false}) else ∅) = _
  rw [if_pos rfl, kidx_csem (by omega), if_pos rfl]
theorem duties_later (g : GSem nD τ sig) : ∀ r, 1 ≤ r → (Rd P).duties g r = ∅ :=
  fun r hr => if_neg (by omega)
theorem amount_eq (h : k < 34) (d : Bool) : (Rd P).amount (cell c k) 0 d = amt k := by
  show amt (kidx (csem k)) = _; rw [kidx_csem h]
theorem payload_eq (h : k < 34) (d : Bool) : (Rd P).payload (cell c k) 0 d = pay P c k d := by
  show pay P c (kidx (csem k)) d = _; rw [kidx_csem h]
theorem expect_eq (h : k < 34) : (Rd P).expect (cell c k) 0 = expc k := by
  unfold Schedule.expect Schedule.amountOf
  by_cases h3 : k = 33
  · subst h3
    rw [duties_bar, Finset.sum_congr rfl fun d _ => amount_eq P c (by omega) d, Finset.sum_const, Finset.card_univ,
      Fintype.card_bool, smul_eq_mul]
    rfl
  · rw [duties_one P c (by omega), Finset.sum_singleton, amount_eq P c h]; unfold expc; rw [if_neg h3]
/-- What the wait on a cell receives. -/
def got (c : Dev nD) (k : ℕ) : sProp 𝕄 := if k = 33 then payBar c else pay P c k false
theorem rest_eq (h : k < 34) :
    bigSep ((Rd P).duties (cell c k) 0 \ ∅) (fun d => (Rd P).payload (cell c k) 0 d) ⊢ got P c k := by
  unfold got
  by_cases h3 : k = 33
  · subst h3
    rw [Finset.sdiff_empty, duties_bar, bigSep_univ_eq_bigSepL [false, true] (by decide) (by decide), bigSepL_cons_cons, bigSepL_singleton,
      payload_eq P c h, payload_eq P c h, if_pos rfl]
    show iprop(pay P c 33 false ∗ pay P c 33 true) ⊢ _
    iintro ⟨-, H⟩
    ihave H := (show pay P c 33 true ⊢ payBar c from Entails.of_eq rfl) $$ H
    iexact H
  · rw [Finset.sdiff_empty, duties_one P c (by omega), bigSep_singleton, payload_eq P c h, if_neg h3]

end Facts

/-! ## Tokens and debts, numbered alike; number `34` is the right neighbour's debt to the barrier -/

def tcell (k : ℕ) : ℕ := min k 33
def tduty (k : ℕ) : Bool := decide (k = 34)
/-- How far round the ring from the payer the paid cell is. -/
def off (k : ℕ) : ℕ :=
  if k < 7 then 0 else if k < 14 then 1 else if k < 18 then 0 else if k < 22 then 1 else if k < 25 then 0
  else if k < 33 then 7 else if k = 33 then 1 else 7

theorem tcell_lt (k : ℕ) : tcell k < 34 := by unfold tcell; omega
theorem tcell_of_lt {k : ℕ} (h : k < 34) : tcell k = k := by unfold tcell; omega
theorem tduty_of_lt {k : ℕ} (h : k < 34) : tduty k = false := by unfold tduty; exact decide_eq_false (by omega)

/-- The cell debt `k` of device `c` is owed to. -/
abbrev oc (c : Dev nD) (k : ℕ) : GSem nD τ sig := cell (rot c (off k)) (tcell k)

def tok (c : Dev nD) (k : ℕ) : sProp 𝕄 := dutyTok ER (oc c k) 0 (tduty k)

def owed (c : Dev nD) (O : Finset ℕ) : CellTallies nD τ sig Unit := ∑ k ∈ O, tallyAt (oc c k) () (amt k)

theorem owed_empty (c : Dev nD) : owed c ∅ = 0 := Finset.sum_empty
theorem owed_insert (c : Dev nD) {k : ℕ} {O : Finset ℕ} (h : k ∉ O) : owed c (insert k O) = owed c O + tallyAt (oc c k) () (amt k) := by
  unfold owed; rw [Finset.sum_insert h, add_comm]

/-! ## The levels -/

def lev (k : ℕ) : ℕ :=
  if k < 7 then 0 else if k < 14 then 2 + 2 * (k - 7) else if k < 18 then 0 else if k < 22 then 30 + 2 * (k - 18)
  else if k < 25 then 0 else if k < 28 then 31 + 2 * (k - 25) else if k < 33 then 3 + 2 * (k - 28) else 1

def L (g : GSem nD τ sig) : Finset Unit := if g.1.2 = .tc then {()} else ∅
def lv (g : GSem nD τ sig) (_ : Unit) : ℕ := lev (kidx g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {O : Finset ℕ} {g : GSem nD τ sig} {u : Unit} (h : 0 < owed c O g u) : ∃ k ∈ O, g = oc c k := by
  induction O using Finset.induction_on with
  | empty => rw [owed_empty] at h; exact absurd h (Nat.lt_irrefl 0)
  | insert a S ha ih =>
    rw [owed_insert c ha, Pi.add_apply, Finsupp.add_apply, tallyAt_apply] at h
    by_cases hg : g = oc c a
    · exact ⟨a, Finset.mem_insert_self _ _, hg⟩
    · rw [if_neg (fun h' => hg h'.1), Nat.add_zero] at h
      obtain ⟨k, hk, e⟩ := ih h
      exact ⟨k, Finset.mem_insert_of_mem hk, e⟩

/-- A wait on a semaphore of level `n` may be made owing only to cells of greater levels. -/
theorem mayWait (c : Dev nD) (sm : SemLoc sig) (O : Finset ℕ) (hO : ∀ k ∈ O, lev (kidx sm) < lev (tcell k)) :
    (levAts L lv : sProp 𝕄) ⊢ MayWait (c : Thread nD τ) sm () (owed c O) := by
  refine MayOwe.of_cut (L := L) (lev := lv) (lev (kidx sm)) (fun p hp => by rw [Finset.mem_singleton.mp hp, L_tc]; exact Finset.mem_singleton_self _)
    (fun g u hg => ?_) (fun p hp => by rw [Finset.mem_singleton.mp hp]; exact le_refl _) (fun g u hg => ?_)
  · obtain ⟨k, hk, rfl⟩ := owed_pos hg
    unfold oc cell; rw [L_tc]; exact Finset.mem_singleton_self _
  · obtain ⟨k, hk, rfl⟩ := owed_pos hg
    show _ < lev (kidx (csem (tcell k)))
    rw [kidx_csem (tcell_lt k)]; exact hO k hk

end Cert.KernelIdeal.Mlp

end
-- ==== Proof.Ideal.Steps.lean ====
/- What a device holds of the exchange's accounting between two operations, and one rule per kind of operation: a wait, a
   signal, a transfer of the reduce-scatter and of the gather, a load and a store of a row block. -/
module

public import proofs.«01_k».proof.Proof.Ideal.Sched

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Dev nD → Row F) (K : Dev nD × Fin 34 → ℕ)

/-- The facts all devices share: every cell's invariant, that every cell has reached its round, the levels. -/
def facts : sProp 𝕄 :=
  iprop((bigSep Finset.univ fun p : Dev nD × Fin 34 => cellInv ER (Rd P) (K p) (cell p.1 p.2.val))
    ∗ (bigSep Finset.univ fun p : Dev nD × Fin 34 => reached ER (cell p.1 p.2.val) 0) ∗ levAts L lv)

instance facts_persistent : BI.Persistent (facts P K) := by unfold facts; infer_instance

theorem facts_inv (c : Dev nD) {k : ℕ} (h : k < 34) : facts P K ⊢ cellInv ER (Rd P) (K (c, ⟨k, h⟩)) (cell c k) := by
  unfold facts
  iintro ⟨H, -, -⟩
  iapply (show (bigSep Finset.univ fun p : Dev nD × Fin 34 => cellInv ER (Rd P) (K p) (cell p.1 p.2.val)) ⊢ cellInv ER (Rd P) (K (c, ⟨k, h⟩)) (cell c k)
    from bigSep_elim (Finset.mem_univ ((c, ⟨k, h⟩) : Dev nD × Fin 34)))
  iexact H
theorem facts_reached (c : Dev nD) {k : ℕ} (h : k < 34) : facts P K ⊢ reached ER (cell c k) 0 := by
  unfold facts
  iintro ⟨-, H, -⟩
  iapply (show (bigSep Finset.univ fun p : Dev nD × Fin 34 => (reached ER (cell p.1 p.2.val) 0 : sProp 𝕄)) ⊢ reached ER (cell c k) 0
    from bigSep_elim (Finset.mem_univ ((c, ⟨k, h⟩) : Dev nD × Fin 34)))
  iexact H
theorem facts_lev : facts P K ⊢ levAts L lv := by
  unfold facts
  iintro ⟨-, -, H⟩; iexact H

/-- Device `c`'s positions on its own cells: those in `A` not yet waited on. -/
def pos (c : Dev nD) (A : Finset ℕ) : sProp 𝕄 :=
  bigSep (Finset.range 34) fun k => atPos ER (cell c k) (if k ∈ A then 0 else 1) ∅ 0

theorem pos_take (c : Dev nD) {A : Finset ℕ} {k : ℕ} (h : k < 34) (hA : k ∈ A) :
    pos (F := F) c A ⊢ iprop(atPos ER (cell c k) 0 ∅ 0 ∗ (atPos ER (cell c k) (0 + 1) ∅ 0 -∗ pos c (A.erase k))) := by
  have hk : k ∈ Finset.range 34 := Finset.mem_range.mpr h
  have e : (bigSep ((Finset.range 34).erase k) fun j => (atPos ER (cell c j) (if j ∈ A.erase k then 0 else 1) ∅ 0 : sProp 𝕄))
      = bigSep ((Finset.range 34).erase k) fun j => (atPos ER (cell c j) (if j ∈ A then 0 else 1) ∅ 0 : sProp 𝕄) := by
    refine bigSep_congr fun j hj => ?_
    have hne := Finset.ne_of_mem_erase hj
    simp only [Finset.mem_erase, ne_eq, hne, not_false_eq_true, true_and]
  unfold pos
  have e1 := bigSep_erase (Φ := fun j => (atPos ER (cell c j) (if j ∈ A then 0 else 1) ∅ 0 : sProp 𝕄)) hk
  have e2 := bigSep_erase (Φ := fun j => (atPos ER (cell c j) (if j ∈ A.erase k then 0 else 1) ∅ 0 : sProp 𝕄)) hk
  rw [e1, e2, if_pos hA, if_neg (Finset.notMem_erase k A), e]
  show iprop(atPos ER (cell c k) 0 ∅ 0 ∗ _) ⊢ iprop(_ ∗ (_ -∗ (_ ∗ _)))
  iintro ⟨H, HR⟩
  isplitl [H]; · iexact H
  iintro H
  isplitl [H]; · iexact H
  iexact HR

def crd (c : Dev nD) (k : ℕ) : sProp 𝕄 := cred (tallyAt (cell c k) () (expc k))

/-- The accounting of device `c`: it owes the debts `O`, has yet to fire the sends `S`, to wait on the cells `A`, and
    holds the credits for the waits `C`. -/
def Ctx (c : Dev nD) (O S A C : Finset ℕ) : sProp 𝕄 :=
  iprop(∃ W : Waits sig Unit, owes (c : Thread nD τ) (owed c O) W ∗ bigSep O (tok c) ∗ bigSep S (tok c) ∗ pos c A ∗ bigSep C (crd c))

theorem bigSep_get {Φ : ℕ → sProp 𝕄} {A A' : Finset ℕ} {k : ℕ} (h : A = insert k A') (hn : k ∉ A') :
    bigSep A Φ ⊢ iprop(Φ k ∗ bigSep A' Φ) := by subst h; exact Entails.of_eq (bigSep_insert hn)
theorem bigSep_put {Φ : ℕ → sProp 𝕄} {A A' : Finset ℕ} {k : ℕ} (h : A = insert k A') (hn : k ∉ A') :
    iprop(Φ k ∗ bigSep A' Φ) ⊢ bigSep A Φ := by subst h; exact Entails.of_eq (bigSep_insert hn).symm

/-- A memref's elements written whole are owned at what was written. -/
theorem owns_written {κ : Thread nD τ} {sp : Space} {s : Shape} {e : EltTy} {m : Memref sig κ.2.kind sp s e} (fd : Buf (Elt F) (m.view.loc κ))
    (X : s.Idx → Elt F e) :
    (m.view.loc κ ↦[m.view.set]{fullShare} (m.view.write (Elt F) fd X Finset.univ)) ⊢ (owns κ m fullShare X : sProp 𝕄) := by
  unfold owns
  iintro H
  iexists _; isplitr
  rotate_left
  · iexact H
  · ipureintro; exact View.read_write_univ _ _
theorem owns_at {κ : Thread nD τ} {sp : Space} {s : Shape} {e : EltTy} {m : Memref sig κ.2.kind sp s e} (q : PosShare TreeShare) (f : Buf (Elt F) (m.view.loc κ))
    (X : s.Idx → Elt F e) (h : m.view.read (Elt F) f = X) :
    (m.view.loc κ ↦[m.view.set]{q} f) ⊢ (owns κ m q X : sProp 𝕄) := by
  subst h; exact owns_intro κ m q f

section Steps

variable {α : Type} {kk : PUnit → Prog (TpuEff nD τ sig (Elt F) Λ₀ .tc) α} (c : Dev nD)

/-- A wait. -/
theorem wait_step {Q : α → sProp 𝕄} {w : TpuEff nD τ sig (Elt F) Λ₀ .tc PUnit} {sm : SemLoc sig} {k' : ℕ} (k : ℕ)
    (hw : ∀ K' : PUnit → sProp 𝕄, wpE (defs₀ (F := F)) 𝒱₀ (c : Thread nD τ) none Set.univ w K' = waitSpec (c : Thread nD τ) Set.univ sm k' K')
    (hsm : sm = csem k) (hk' : k' = expc k) (hk : k < 34) {O S A A' C C' : Finset ℕ} (hA : k ∈ A) (hA' : A.erase k = A')
    (hC : C = insert k C') (hC' : k ∉ C') (hO : ∀ j ∈ O, lev k < lev (tcell j)) :
    iprop(facts P K ∗ Ctx c O S A C)
      ⊢ iprop(((Ctx c O S A' C' ∗ got P c k) -∗ wp frame (wpE (defs₀ (F := F)) 𝒱₀ (c : Thread nD τ) none) Set.univ (kk ⟨⟩) Q) -∗ wp frame (wpE (defs₀ (F := F)) 𝒱₀ (c : Thread nD τ) none) Set.univ (.op w kk) Q) := by
  subst hsm hk' hA'
  unfold Ctx
  iintro ⟨#HF, %W, HO, HtO, HtS, Hpos, HC⟩ Hk
  ihave #HI := (facts_inv P K c hk) $$ HF
  ihave #HL := (facts_lev P K) $$ HF
  ihave Hc := (bigSep_get (Φ := crd c) hC hC') $$ HC
  icases Hc with ⟨Hc, HC⟩
  ihave Hp := (pos_take c hk hA) $$ Hpos
  icases Hp with ⟨Hat, Hpos⟩
  unfold crd
  iapply (Rounds.wp_wait_rest_token 𝒱₀ ER (Rd P) (c : Thread nD τ) none (κ := K (c, ⟨k, hk⟩)) hw (Set.mem_univ _) ()
      (O := owed c O) (W := W) (R := 0) (m := 0) (T := ∅) ((Nat.zero_add _).trans (expect_eq P c hk).symm)) $$ [Hc HO Hat]
  · isplitr; · iexact HI
    isplitl [Hc]; · iexact Hc
    isplitl [HO]; · iexact HO
    isplitr
    · iapply (mayWait c (csem k) O (by rw [kidx_csem hk]; exact hO)); iexact HL
    iexact Hat
  iintro ⟨HO, Hat, -, Hpay⟩
  ihave Hpay := (rest_eq P c hk) $$ Hpay
  ihave Hpos := Hpos $$ Hat
  iapply Hk
  isplitr [Hpay]
  · iexists (insert (csem k, ()) W)
    isplitl [HO]; · iexact HO
    isplitl [HtO]; · iexact HtO
    isplitl [HtS]; · iexact HtS
    isplitl [Hpos]; · iexact Hpos
    iexact HC
  · iexact Hpay

/-- A signal. -/
theorem signal_step {Q : α → sProp 𝕄} {dst : Thread nD τ} {sem : Sem sig} {k' : ℕ} (k : ℕ) (hs : ((dst, .reg sem) : GSem nD τ sig) = oc c k) (hk' : k' = 1)
    (hk : 28 ≤ k ∧ k < 35) {O O' S A C : Finset ℕ} (hO : O = insert k O') (hO' : k ∉ O')
    (hr : τ.routes (c : Thread nD τ) dst = true) :
    iprop(facts P K ∗ Ctx c O S A C ∗ pay P (rot c (off k)) (tcell k) (tduty k))
      ⊢ iprop((Ctx c O' S A C -∗ wp frame (wpE (defs₀ (F := F)) 𝒱₀ (c : Thread nD τ) none) Set.univ (kk ⟨⟩) Q) -∗ wp frame (wpE (defs₀ (F := F)) 𝒱₀ (c : Thread nD τ) none) Set.univ (.op (.semSignal dst sem k') kk) Q) := by
  subst hk'
  have ha : amt k = 1 := if_neg (by omega)
  have hat : amt (tcell k) = 1 := if_neg (by unfold tcell; omega)
  unfold Ctx
  iintro ⟨#HF, ⟨%W, HO, HtO, HtS, Hpos, HC⟩, Hpay⟩ Hk
  ihave #HI := (facts_inv P K (rot c (off k)) (tcell_lt k)) $$ HF
  ihave #HR := (facts_reached P K (rot c (off k)) (tcell_lt k)) $$ HF
  ihave Ht := (bigSep_get (Φ := tok c) hO hO') $$ HtO
  icases Ht with ⟨Ht, HtO⟩
  unfold tok
  iapply (Rounds.wp_signal 𝒱₀ ER (Rd P) (c : Thread nD τ) none (dst := dst) (sem := sem) (κ := K (rot c (off k), ⟨tcell k, tcell_lt k⟩))
      (r := 0) (d := tduty k) (k' := 1) (by
        rw [hs]; unfold oc tduty
        by_cases h : k < 33
        · rw [tcell_of_lt (by omega), duties_one P _ h, decide_eq_false (by omega)]; exact Finset.mem_singleton_self _
        · rw [show tcell k = 33 by unfold tcell; omega, duties_bar]; exact Finset.mem_univ _)
      (by rw [hs]; unfold oc; rw [amount_eq P _ (tcell_lt k)]; exact hat) () (owed c O') (O₀ := owed c O) (by rw [hs, hO, owed_insert c hO', ha]) (hr := hr))
    $$ [HO Ht Hpay]
  · rw [hs, payload_eq P _ (tcell_lt k) _]
    isplitr; · iexact HI
    isplitl [HO]; · iexact HO
    isplitl [Ht]; · iexact Ht
    isplitl [Hpay]; · iexact Hpay
    iexact HR
  iintro HO
  iapply Hk
  iexists W
  isplitl [HO]; · iexact HO
  isplitl [HtO]; · iexact HtO
  isplitl [HtS]; · iexact HtS
  isplitl [Hpos]; · iexact Hpos
  iexact HC

section Send

variable {n : Dev nD} {sp sp' : Space} {s : Shape} {e : EltTy} {src : Memref sig .tc sp s e} {dst : Memref sig .tc sp' s e}
  {hsc : dst.view.ref.isScScratch = false} {sS sem : SemLoc sig}
  {hsrc : src.view.WordExact} {hdst : dst.view.WordExact} {hsem : DmaTarget.Typed sp sem (.remote (n : Thread nD τ) dst sS hsc)}

/-- A transfer whose source row is handed over with the delivery. -/
theorem send_landing {Q : α → sProp 𝕄} (k₁ k₂ : ℕ) (hn : n = rot c (off k₂)) (hsS : sS = csem k₁) (hse : sem = csem k₂) (h₁ : k₁ < 7) (h₂ : 7 ≤ k₂ ∧ k₂ < 14)
    (hN : dst.view.amount sem = N) (X : s.Idx → Elt F e) (Fr : sProp 𝕄) {O O' S S' A C C' : Finset ℕ}
    (hO : O = insert k₂ O') (hO' : k₂ ∉ O') (hS : S = insert k₁ S') (hS' : k₁ ∉ S') (hC : C' = insert k₁ C) (hC' : k₁ ∉ C)
    (hpay : iprop((owns (n : Thread nD τ) dst fullShare X ∗ Fr) ∗ owns (c : Thread nD τ) src fullShare X) ⊢ pay P n k₂ false) :
    iprop(facts P K ∗ Ctx c O S A C ∗ owns (c : Thread nD τ) src fullShare X ∗ (∃ Y, owns (n : Thread nD τ) dst fullShare Y) ∗ Fr)
      ⊢ iprop((Ctx c O' S' A C' -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (n : Thread nD τ) dst sS hsc) sem hsrc hdst hsem) kk) Q) := by
  subst hsS hse hn
  have ho : oc c k₂ = cell (rot c (off k₂)) k₂ := by unfold oc; rw [tcell_of_lt (by omega)]
  have ho₁ : oc c k₁ = cell c k₁ := by unfold oc; rw [tcell_of_lt (by omega), show off k₁ = 0 from if_pos h₁, rot_zero]
  have ha : amt k₂ = N := if_pos (by omega)
  have ha₁ : amt k₁ = N := if_pos (by omega)
  have he₁ : expc k₁ = N := by unfold expc; rw [if_neg (by omega), ha₁]
  have hp : ∀ (fs : Buf (Elt F) (src.view.loc (c : Thread nD τ))) (hf : src.view.read (Elt F) fs = X)
      (fd : Buf (Elt F) (dst.view.loc (rot c (off k₂) : Thread nD τ))),
      iprop(((dst.view.loc (rot c (off k₂) : Thread nD τ) ↦[dst.view.set]{fullShare} (dst.view.write (Elt F) fd (src.view.read (Elt F) fs) Finset.univ)) ∗ Fr)
        ∗ (src.view.loc (c : Thread nD τ) ↦[src.view.set]{fullShare} fs)) ⊢ (pay P (rot c (off k₂)) k₂ false : sProp 𝕄) := by
    intro fs hf fd
    rw [hf]
    exact (BIClass.sep_mono (sep_mono_left (owns_written fd X)) (owns_at fullShare fs X hf)).trans hpay
  unfold Ctx
  iintro ⟨#HF, ⟨%W, HO, HtO, HtS, Hpos, HC⟩, Hsrc, ⟨%Y, Hdst⟩, HFr⟩ Hk
  ihave #HI₁ := (facts_inv P K c (k := k₁) (by omega)) $$ HF
  ihave #HI₂ := (facts_inv P K (rot c (off k₂)) (k := k₂) (by omega)) $$ HF
  ihave #HR₁ := (facts_reached P K c (k := k₁) (by omega)) $$ HF
  ihave #HR₂ := (facts_reached P K (rot c (off k₂)) (k := k₂) (by omega)) $$ HF
  ihave Ht := (bigSep_get (Φ := tok c) hO hO') $$ HtO
  icases Ht with ⟨Ht, HtO⟩
  ihave Ht' := (bigSep_get (Φ := tok c) hS hS') $$ HtS
  icases Ht' with ⟨Ht₁, HtS⟩
  unfold tok
  unfold owns
  icases Hsrc with ⟨%fs, %hfs, Hsrc⟩
  icases Hdst with ⟨%fd, %hfd, Hdst⟩
  iapply (Rounds.wp_send_landing_pointsTo_with 𝒱₀ ER (Rd P) (c : Thread nD τ) none (κ₁ := K (c, ⟨k₁, by omega⟩))
      (κ₂ := K (rot c (off k₂), ⟨k₂, by omega⟩)) (r₁ := 0) (r₂ := 0) (d₁ := false) (d₂ := false) (fd := fd) (fs := fs) (F := Fr) (q := fullShare)
      (by rw [show (((c : Thread nD τ), csem k₁) : GSem nD τ sig) = cell c k₁ from rfl, duties_one P _ (by omega)]; exact Finset.mem_singleton_self _)
      (by rw [show (((rot c (off k₂) : Thread nD τ), csem k₂) : GSem nD τ sig) = cell (rot c (off k₂)) k₂ from rfl, duties_one P _ (by omega)]; exact Finset.mem_singleton_self _)
      () () N hN ((amount_eq P c (by omega) false).trans ha₁) ((amount_eq P _ (by omega) false).trans ha)
      (O₀ := owed c O) (owed c O') (by rw [hO, owed_insert c hO', ha, ho]) (W := W)
      (by rw [show (Rd P).payload ((c : Thread nD τ), csem k₁) 0 false = pay P c k₁ false from payload_eq P c (by omega) false]; unfold pay; rw [if_pos h₁])
      (by rw [show (Rd P).payload ((rot c (off k₂) : Thread nD τ), csem k₂) 0 false = pay P (rot c (off k₂)) k₂ false from payload_eq P _ (by omega) false]
          exact hp fs hfs fd)) $$ [HO Ht Ht₁ Hsrc Hdst HFr]
  · isplitr; · iexact HI₁
    isplitr; · iexact HI₂
    isplitl [Hsrc]; · iexact Hsrc
    isplitl [Hdst HFr]
    · isplitl [Hdst]; · iexact Hdst
      iexact HFr
    isplitl [HO]; · iexact HO
    rw [ho, ho₁, tduty_of_lt (k := k₁) (by omega), tduty_of_lt (k := k₂) (by omega)]
    isplitl [Ht₁]; · iexact Ht₁
    isplitr; · iexact HR₁
    isplitl [Ht]; · iexact Ht
    iexact HR₂
  iintro ⟨Hc, HO⟩
  iapply Hk
  iexists W
  isplitl [HO]; · iexact HO
  isplitl [HtO]; · iexact HtO
  isplitl [HtS]; · iexact HtS
  isplitl [Hpos]; · iexact Hpos
  iapply (bigSep_put (Φ := crd c) hC hC')
  isplitl [Hc]
  · unfold crd; rw [he₁]; iexact Hc
  · iexact HC

/-- A transfer whose source comes back at its send wait. -/
theorem send_keep {Q : α → sProp 𝕄} (k₁ k₂ : ℕ) (hn : n = rot c (off k₂)) (hsS : sS = csem k₁) (hse : sem = csem k₂) (h₁ : k₁ < 28) (ho0 : off k₁ = 0) (h₂ : k₂ < 28)
    (hN : dst.view.amount sem = N) (X : s.Idx → Elt F e) (q : PosShare TreeShare) (Fr : sProp 𝕄) {O O' S S' A C C' : Finset ℕ}
    (hO : O = insert k₂ O') (hO' : k₂ ∉ O') (hS : S = insert k₁ S') (hS' : k₁ ∉ S') (hC : C' = insert k₁ C) (hC' : k₁ ∉ C)
    (hpay₁ : owns (c : Thread nD τ) src q X ⊢ pay P c k₁ false)
    (hpay : iprop(owns (n : Thread nD τ) dst fullShare X ∗ Fr) ⊢ pay P n k₂ false) :
    iprop(facts P K ∗ Ctx c O S A C ∗ owns (c : Thread nD τ) src q X ∗ (∃ Y, owns (n : Thread nD τ) dst fullShare Y) ∗ Fr)
      ⊢ iprop((Ctx c O' S' A C' -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (n : Thread nD τ) dst sS hsc) sem hsrc hdst hsem) kk) Q) := by
  subst hsS hse hn
  have ho : oc c k₂ = cell (rot c (off k₂)) k₂ := by unfold oc; rw [tcell_of_lt (by omega)]
  have ho₁ : oc c k₁ = cell c k₁ := by unfold oc; rw [tcell_of_lt (by omega), ho0, rot_zero]
  have ha : amt k₂ = N := if_pos (by omega)
  have ha₁ : amt k₁ = N := if_pos (by omega)
  have he₁ : expc k₁ = N := by unfold expc; rw [if_neg (by omega), ha₁]
  have hp : ∀ (fs : Buf (Elt F) (src.view.loc (c : Thread nD τ))) (hf : src.view.read (Elt F) fs = X)
      (fd : Buf (Elt F) (dst.view.loc (rot c (off k₂) : Thread nD τ))),
      iprop((dst.view.loc (rot c (off k₂) : Thread nD τ) ↦[dst.view.set]{fullShare} (dst.view.write (Elt F) fd (src.view.read (Elt F) fs) Finset.univ)) ∗ Fr)
        ⊢ (pay P (rot c (off k₂)) k₂ false : sProp 𝕄) := by
    intro fs hf fd
    rw [hf]
    exact (sep_mono_left (owns_written fd X)).trans hpay
  unfold Ctx
  iintro ⟨#HF, ⟨%W, HO, HtO, HtS, Hpos, HC⟩, Hsrc, ⟨%Y, Hdst⟩, HFr⟩ Hk
  ihave #HI₁ := (facts_inv P K c (k := k₁) (by omega)) $$ HF
  ihave #HI₂ := (facts_inv P K (rot c (off k₂)) (k := k₂) (by omega)) $$ HF
  ihave #HR₁ := (facts_reached P K c (k := k₁) (by omega)) $$ HF
  ihave #HR₂ := (facts_reached P K (rot c (off k₂)) (k := k₂) (by omega)) $$ HF
  ihave Ht := (bigSep_get (Φ := tok c) hO hO') $$ HtO
  icases Ht with ⟨Ht, HtO⟩
  ihave Ht' := (bigSep_get (Φ := tok c) hS hS') $$ HtS
  icases Ht' with ⟨Ht₁, HtS⟩
  unfold tok
  unfold owns
  icases Hsrc with ⟨%fs, %hfs, Hsrc⟩
  icases Hdst with ⟨%fd, %hfd, Hdst⟩
  iapply (Rounds.wp_send_pointsTo_with 𝒱₀ ER (Rd P) (c : Thread nD τ) none (κ₁ := K (c, ⟨k₁, by omega⟩))
      (κ₂ := K (rot c (off k₂), ⟨k₂, by omega⟩)) (r₁ := 0) (r₂ := 0) (d₁ := false) (d₂ := false) (fd := fd) (fs := fs) (F := Fr) (q := q)
      (by rw [show (((c : Thread nD τ), csem k₁) : GSem nD τ sig) = cell c k₁ from rfl, duties_one P _ (by omega)]; exact Finset.mem_singleton_self _)
      (by rw [show (((rot c (off k₂) : Thread nD τ), csem k₂) : GSem nD τ sig) = cell (rot c (off k₂)) k₂ from rfl, duties_one P _ (by omega)]; exact Finset.mem_singleton_self _)
      () () N hN ((amount_eq P c (by omega) false).trans ha₁) ((amount_eq P _ (by omega) false).trans ha)
      (O₀ := owed c O) (owed c O') (by rw [hO, owed_insert c hO', ha, ho]) (W := W)
      (by rw [show (Rd P).payload ((c : Thread nD τ), csem k₁) 0 false = pay P c k₁ false from payload_eq P c (by omega) false]; exact (owns_at q fs X hfs).trans hpay₁)
      (by rw [show (Rd P).payload ((rot c (off k₂) : Thread nD τ), csem k₂) 0 false = pay P (rot c (off k₂)) k₂ false from payload_eq P _ (by omega) false]
          exact hp fs hfs fd)) $$ [HO Ht Ht₁ Hsrc Hdst HFr]
  · isplitr; · iexact HI₁
    isplitr; · iexact HI₂
    isplitl [Hsrc]; · iexact Hsrc
    isplitl [Hdst HFr]
    · isplitl [Hdst]; · iexact Hdst
      iexact HFr
    isplitl [HO]; · iexact HO
    rw [ho, ho₁, tduty_of_lt (k := k₁) (by omega), tduty_of_lt (k := k₂) (by omega)]
    isplitl [Ht₁]; · iexact Ht₁
    isplitr; · iexact HR₁
    isplitl [Ht]; · iexact Ht
    iexact HR₂
  iintro ⟨Hc, HO⟩
  iapply Hk
  iexists W
  isplitl [HO]; · iexact HO
  isplitl [HtO]; · iexact HtO
  isplitl [HtS]; · iexact HtS
  isplitl [Hpos]; · iexact Hpos
  iapply (bigSep_put (Φ := crd c) hC hC')
  isplitl [Hc]
  · unfold crd; rw [he₁]; iexact Hc
  · iexact HC

end Send

end Steps

/-! ## Loads and stores through a slice of a buffer -/

section Mem

variable {α : Type} (c : Dev nD) {sp : Space} {s : Shape} {e : EltTy}

theorem load_slice {Q : α → sProp 𝕄} {cs : CoreSpace} {m : Memref sig .tc cs s e} {r : Rect s} {hr : ∀ a, r.stride a = 1} {hl : m.view.LoadsAt r.toLoadRect}
    {kk : (r.shape.Idx → Elt F e) → Prog (TpuEff nD τ sig (Elt F) Λ₀ .tc) α} {q : PosShare TreeShare} {X : r.shape.Idx → Elt F e} :
    owns (c : Thread nD τ) (m.slice r hr) q X
      ⊢ (iprop((owns (c : Thread nD τ) (m.slice r hr) q X -∗ wp frame (wpE (defs₀ (F := F)) 𝒱₀ (c : Thread nD τ) none) Set.univ (kk X) Q) -∗ wp frame (wpE (defs₀ (F := F)) 𝒱₀ (c : Thread nD τ) none) Set.univ (.op (.load m r.toLoadRect hl) kk) Q) : sProp 𝕄) := by
  unfold owns
  iintro ⟨%f, %hf, H⟩ Hk
  subst hf
  iapply (wp_load_rect 𝒱₀ (c : Thread nD τ) none Set.univ (m := m) (r := r) (S := (m.slice r hr).view.set) (Finset.Subset.refl _)) $$ H
  iintro H
  iapply Hk
  iexists f; isplitr
  · ipureintro; rfl
  · iexact H

theorem store_slice {Q : α → sProp 𝕄} {cs : CoreSpace} {m : Memref sig .tc cs s e} {r : Rect s} {hr : ∀ a, r.stride a = 1} {w : r.shape.Idx → Elt F e}
    {hx : (m.access r).Stores Finset.univ} {hm : Finset.univ = Finset.univ ∨ ∀ a, r.stride a = 1}
    {kk : PUnit → Prog (TpuEff nD τ sig (Elt F) Λ₀ .tc) α} {X : r.shape.Idx → Elt F e} :
    owns (c : Thread nD τ) (m.slice r hr) fullShare X
      ⊢ (iprop((owns (c : Thread nD τ) (m.slice r hr) fullShare w -∗ wp frame (wpE (defs₀ (F := F)) 𝒱₀ (c : Thread nD τ) none) Set.univ (kk ⟨⟩) Q) -∗ wp frame (wpE (defs₀ (F := F)) 𝒱₀ (c : Thread nD τ) none) Set.univ (.op (.store m r w Finset.univ hx hm) kk) Q) : sProp 𝕄) := by
  unfold owns
  iintro ⟨%f, %hf, H⟩ Hk
  iapply (wp_store 𝒱₀ (c : Thread nD τ) none Set.univ (m := m) (r := r) (Mk := Finset.univ) (S := (m.slice r hr).view.set) (Finset.Subset.refl _)) $$ H
  iintro H
  iapply Hk
  iexists _; isplitr
  rotate_left
  · iexact H
  · ipureintro; exact View.read_write_univ _ _

end Mem

end Cert.KernelIdeal.Mlp

end
-- ==== Proof.Ideal.Ops.lean ====
/- The kernel's operations at the offsets it prints: loads, stores, transfers and waits of the row blocks and the slots. -/
module

public import proofs.«01_k».proof.Proof.Ideal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Semaphores of the arrays -/

theorem inb_1 (s : Fin 7) : ∀ a, (![s.val] : Fin 1 → ℕ) a + S1.size a ≤ S7.size a := by revert s; decide
theorem sem_at1 : ∀ s : Fin 7,
    (.dma ((cc0_scratch1.slice (Rect.unit (s := S7) ![s.val] S1.size (inb_1 s))).squeeze S_ squeezes_S1_S_).sem : SemLoc sig) = csem s.val := by
  decide +kernel
theorem sem_arr1 {off : Fin 1 → ℕ} {inb} {s : ℕ} (h : off = ![s]) (hs : s < 7) :
    (.dma ((cc0_scratch1.slice (Rect.unit (s := S7) off S1.size inb)).squeeze S_ squeezes_S1_S_).sem : SemLoc sig) = csem s := by
  subst h; exact sem_at1 ⟨s, hs⟩
theorem inb_2 (s : Fin 7) : ∀ a, (![s.val] : Fin 1 → ℕ) a + S1.size a ≤ S7.size a := by revert s; decide
theorem sem_at2 : ∀ s : Fin 7,
    (.dma ((cc0_scratch2.slice (Rect.unit (s := S7) ![s.val] S1.size (inb_2 s))).squeeze S_ squeezes_S1_S_).sem : SemLoc sig) = csem (7 + s.val) := by
  decide +kernel
theorem sem_arr2 {off : Fin 1 → ℕ} {inb} {s : ℕ} (h : off = ![s]) (hs : s < 7) :
    (.dma ((cc0_scratch2.slice (Rect.unit (s := S7) off S1.size inb)).squeeze S_ squeezes_S1_S_).sem : SemLoc sig) = csem (7 + s) := by
  subst h; exact sem_at2 ⟨s, hs⟩
theorem inb_3 (s : Fin 4) : ∀ a, (![s.val] : Fin 1 → ℕ) a + S1.size a ≤ S4.size a := by revert s; decide
theorem sem_at3 : ∀ s : Fin 4,
    (.dma ((cc0_scratch3.slice (Rect.unit (s := S4) ![s.val] S1.size (inb_3 s))).squeeze S_ squeezes_S1_S_).sem : SemLoc sig) = csem (14 + s.val) := by
  decide +kernel
theorem sem_arr3 {off : Fin 1 → ℕ} {inb} {s : ℕ} (h : off = ![s]) (hs : s < 4) :
    (.dma ((cc0_scratch3.slice (Rect.unit (s := S4) off S1.size inb)).squeeze S_ squeezes_S1_S_).sem : SemLoc sig) = csem (14 + s) := by
  subst h; exact sem_at3 ⟨s, hs⟩
theorem inb_4 (s : Fin 4) : ∀ a, (![s.val] : Fin 1 → ℕ) a + S1.size a ≤ S4.size a := by revert s; decide
theorem sem_at4 : ∀ s : Fin 4,
    (.dma ((cc0_scratch4.slice (Rect.unit (s := S4) ![s.val] S1.size (inb_4 s))).squeeze S_ squeezes_S1_S_).sem : SemLoc sig) = csem (18 + s.val) := by
  decide +kernel
theorem sem_arr4 {off : Fin 1 → ℕ} {inb} {s : ℕ} (h : off = ![s]) (hs : s < 4) :
    (.dma ((cc0_scratch4.slice (Rect.unit (s := S4) off S1.size inb)).squeeze S_ squeezes_S1_S_).sem : SemLoc sig) = csem (18 + s) := by
  subst h; exact sem_at4 ⟨s, hs⟩
theorem inb_5 (s : Fin 3) : ∀ a, (![s.val] : Fin 1 → ℕ) a + S1.size a ≤ S3.size a := by revert s; decide
theorem sem_at5 : ∀ s : Fin 3,
    (.dma ((cc0_scratch5.slice (Rect.unit (s := S3) ![s.val] S1.size (inb_5 s))).squeeze S_ squeezes_S1_S_).sem : SemLoc sig) = csem (22 + s.val) := by
  decide +kernel
theorem sem_arr5 {off : Fin 1 → ℕ} {inb} {s : ℕ} (h : off = ![s]) (hs : s < 3) :
    (.dma ((cc0_scratch5.slice (Rect.unit (s := S3) off S1.size inb)).squeeze S_ squeezes_S1_S_).sem : SemLoc sig) = csem (22 + s) := by
  subst h; exact sem_at5 ⟨s, hs⟩
theorem inb_6 (s : Fin 3) : ∀ a, (![s.val] : Fin 1 → ℕ) a + S1.size a ≤ S3.size a := by revert s; decide
theorem sem_at6 : ∀ s : Fin 3,
    (.dma ((cc0_scratch6.slice (Rect.unit (s := S3) ![s.val] S1.size (inb_6 s))).squeeze S_ squeezes_S1_S_).sem : SemLoc sig) = csem (25 + s.val) := by
  decide +kernel
theorem sem_arr6 {off : Fin 1 → ℕ} {inb} {s : ℕ} (h : off = ![s]) (hs : s < 3) :
    (.dma ((cc0_scratch6.slice (Rect.unit (s := S3) off S1.size inb)).squeeze S_ squeezes_S1_S_).sem : SemLoc sig) = csem (25 + s) := by
  subst h; exact sem_at6 ⟨s, hs⟩
theorem inb_7 (s : Fin 5) : ∀ a, (![s.val] : Fin 1 → ℕ) a + S1.size a ≤ S5.size a := by revert s; decide
theorem sem_at7 : ∀ s : Fin 5,
    (.reg ((cc0_scratch7.slice (Rect.unit (s := S5) ![s.val] S1.size (inb_7 s))).squeeze S_ squeezes_S1_S_).sem : SemLoc sig) = csem (28 + s.val) := by
  decide +kernel
theorem sem_arr7 {off : Fin 1 → ℕ} {inb} {s : ℕ} (h : off = ![s]) (hs : s < 5) :
    (.reg ((cc0_scratch7.slice (Rect.unit (s := S5) off S1.size inb)).squeeze S_ squeezes_S1_S_).sem : SemLoc sig) = csem (28 + s) := by
  subst h; exact sem_at7 ⟨s, hs⟩
theorem sem_bar : (.reg (SemArray.scalar (sig.barrier 0 rfl) : Sems sig S_).sem : SemLoc sig) = csem 33 := by decide

theorem off2_eq (t : Fin k0_t1_loop.trips) (h : 2 ≤ t.val) : k0_off2 t = ![t.val - 2] := by revert t; decide +kernel
theorem off8_eq (t : Fin k0_t1_loop.trips) (h : t.val < 5) : k0_off8 t = ![t.val] := by revert t; decide +kernel

/-! ## Loads and stores -/

section Mem

variable {α : Type} (c : Dev nD)

theorem load_row {Q : α → sProp 𝕄} {off : Fin 2 → ℕ} {j : Dev nD} (h : off = ![192 * j.val, 0]) {inb} {hl}
    {kk : Row F → Prog (TpuEff nD τ sig (Elt F) Λ₀ .tc) α} {q : PosShare TreeShare} {X : Row F} :
    rowO c j q X ⊢ iprop((rowO c j q X -∗ wp frame (wpE (defs₀ (F := F)) 𝒱₀ (c : Thread nD τ) none) Set.univ (kk X) Q)
      -∗ wp frame (wpE (defs₀ (F := F)) 𝒱₀ (c : Thread nD τ) none) Set.univ
          (.op (.load oM (Rect.unit (s := S1536x1536) off S192x1536.size inb).toLoadRect hl) kk) Q) := by
  subst h
  exact load_slice (m := oM) (r := rowR j) (hr := rowR_stride j) c

theorem load_any_row {Q : α → sProp 𝕄} {off : Fin 2 → ℕ} {j : Dev nD} (h : off = ![192 * j.val, 0]) {inb} {hl}
    {p : Prog (TpuEff nD τ sig (Elt F) Λ₀ .tc) α} :
    rowA c j ⊢ iprop((rowA c j -∗ wp frame (wpE (defs₀ (F := F)) 𝒱₀ (c : Thread nD τ) none) Set.univ p Q)
      -∗ wp frame (wpE (defs₀ (F := F)) 𝒱₀ (c : Thread nD τ) none) Set.univ
          (.op (.load oM (Rect.unit (s := S1536x1536) off S192x1536.size inb).toLoadRect hl) fun _ => p) Q) := by
  unfold rowA
  iintro ⟨%X, H⟩ Hk
  iapply (load_row c h (kk := fun _ => p)) $$ H
  iintro H
  iapply Hk; iexists X; iexact H

theorem store_row {Q : α → sProp 𝕄} {off : Fin 2 → ℕ} {j : Dev nD} (h : off = ![192 * j.val, 0]) {inb} {w : Row F} {hx hm}
    {kk : PUnit → Prog (TpuEff nD τ sig (Elt F) Λ₀ .tc) α} :
    rowA c j ⊢ iprop((rowO c j fullShare w -∗ wp frame (wpE (defs₀ (F := F)) 𝒱₀ (c : Thread nD τ) none) Set.univ (kk ⟨⟩) Q)
      -∗ wp frame (wpE (defs₀ (F := F)) 𝒱₀ (c : Thread nD τ) none) Set.univ
          (.op (.store oM (Rect.unit (s := S1536x1536) off S192x1536.size inb) w Finset.univ hx hm) kk) Q) := by
  subst h
  have h : ∀ X : Row F, rowO c j fullShare X ⊢ iprop((rowO c j fullShare w -∗ wp frame (wpE (defs₀ (F := F)) 𝒱₀ (c : Thread nD τ) none) Set.univ (kk ⟨⟩) Q)
      -∗ wp frame (wpE (defs₀ (F := F)) 𝒱₀ (c : Thread nD τ) none) Set.univ
          (.op (.store oM (rowR j) w Finset.univ hx hm) kk) Q) :=
    fun X => store_slice (m := oM) (r := rowR j) (hr := rowR_stride j) c (X := X)
  unfold rowA
  iintro ⟨%X, H⟩ Hk
  iapply (h X) $$ H
  iexact Hk

theorem owns_slot (i : Fin 2) (X : Row F) : slotO c i X ⊢ (owns (c : Thread nD τ) (slot3M i) fullShare (lift3 X) : sProp 𝕄) := by
  unfold slotO owns
  iintro ⟨%f, %hf, H⟩
  iexists f; isplitr
  · ipureintro
    subst hf
    funext y
    show (slot3M i).view.read (Elt F) f y = (slot3M i).view.read (Elt F) f (Shape.reshapeEquiv _ ((Shape.reshapeEquiv _).symm y))
    rw [Equiv.apply_symm_apply]
  · rw [show (slotM i).view.set = (slot3M i).view.set from View.set_reshape ..]
    iexact H
theorem slot_owns (i : Fin 2) (Y : S1x192x1536.Idx → Elt F .bf16) : owns (c : Thread nD τ) (slot3M i) fullShare Y ⊢ (slotA c i : sProp 𝕄) := by
  unfold slotA slotO owns
  iintro ⟨%f, %hf, H⟩
  iexists _, f; isplitr
  · ipureintro; rfl
  · rw [show (slotM i).view.set = (slot3M i).view.set from View.set_reshape ..]
    iexact H

theorem load_slot {Q : α → sProp 𝕄} {off : Fin 3 → ℕ} {i : Fin 2} (h : off = ![i.val, 0, 0]) {inb} {hl}
    {kk : (S1x192x1536.Idx → Elt F .bf16) → Prog (TpuEff nD τ sig (Elt F) Λ₀ .tc) α} {X : Row F} :
    slotO c i X ⊢ iprop((slotA c i -∗ wp frame (wpE (defs₀ (F := F)) 𝒱₀ (c : Thread nD τ) none) Set.univ (kk (lift3 X)) Q)
      -∗ wp frame (wpE (defs₀ (F := F)) 𝒱₀ (c : Thread nD τ) none) Set.univ
          (.op (.load bM (Rect.unit (s := S2x192x1536) off S1x192x1536.size inb).toLoadRect hl) kk) Q) := by
  subst h
  have h : (owns (c : Thread nD τ) (slot3M i) fullShare (lift3 X) : sProp 𝕄)
      ⊢ iprop((owns (c : Thread nD τ) (slot3M i) fullShare (lift3 X) -∗ wp frame (wpE (defs₀ (F := F)) 𝒱₀ (c : Thread nD τ) none) Set.univ (kk (lift3 X)) Q)
      -∗ wp frame (wpE (defs₀ (F := F)) 𝒱₀ (c : Thread nD τ) none) Set.univ (.op (.load bM (slotR i).toLoadRect hl) kk) Q) :=
    load_slice (m := bM) (r := slotR i) (hr := slotR_stride i) c
  iintro H Hk
  ihave H := (owns_slot c i X) $$ H
  iapply h $$ H
  iintro H
  ihave H := (slot_owns c i (lift3 X)) $$ H
  iapply Hk; iexact H

end Mem

/-! ## The operands -/

/-- The four operands of each device as its staging buffers hold them. -/
structure Args (F : FTy → Type) where
  x : Dev nD → (cc0_stg0_0 : Ref sig .tc).ty.Contents (Elt F)
  g : Dev nD → (cc0_stg1_0 : Ref sig .tc).ty.Contents (Elt F)
  u : Dev nD → (cc0_stg2_0 : Ref sig .tc).ty.Contents (Elt F)
  d : Dev nD → (cc0_stg3_0 : Ref sig .tc).ty.Contents (Elt F)

/-- Row block `j` of a device's `x`. -/
def xrow (a : Args F) (c j : Dev nD) : Row F := (xM.slice (rowR j) (rowR_stride j)).view.read (Elt F) (a.x c)

/-- Device `c`'s own contribution to row block `j`. -/
def part (a : Args F) (c j : Dev nD) : Row F := k0_pay1 (xrow a c j) (a.g c) (a.u c) (a.d c)

def ins (a : Args F) (c : Dev nD) : sProp 𝕄 :=
  iprop((((c : Thread nD τ).loc cc0_stg0_0) ↦{fullShare} a.x c) ∗ (((c : Thread nD τ).loc cc0_stg1_0) ↦{fullShare} a.g c)
    ∗ (((c : Thread nD τ).loc cc0_stg2_0) ↦{fullShare} a.u c) ∗ (((c : Thread nD τ).loc cc0_stg3_0) ↦{fullShare} a.d c))

theorem hz : (![0, 0] : Fin 2 → Nat) = fun _ => 0 := funext fun a => by fin_cases a <;> rfl

section Comp

variable {α : Type} (c : Dev nD) (a : Args F)

/-- The four loads of a contribution, the load and the store of the row block it goes to. -/
theorem compute {Q : α → sProp 𝕄} {off : Fin 2 → ℕ} {j : Dev nD} (h : off = ![192 * j.val, 0]) {inb inb' inb''}
    {i₁ i₂ i₃} {hl₀ hl₁ hl₂ hl₃ hl₄} {hx : ∀ v₁ v₂ v₃ v₄, _} {hm}
    {pf : Row F → (S1536x3072.Idx → Elt F .bf16) → (S1536x3072.Idx → Elt F .bf16) → (S3072x1536.Idx → Elt F .bf16) → Row F}
    (hpf : pf = k0_pay1)
    {kk : PUnit → Prog (TpuEff nD τ sig (Elt F) Λ₀ .tc) α} :
    iprop(ins a c ∗ rowA c j) ⊢ iprop((ins a c ∗ rowO c j fullShare (part a c j) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load xM (Rect.unit (s := S1536x1536) off S192x1536.size inb).toLoadRect hl₀) fun v₁ =>
            .op (.load gM (Rect.unit (s := S1536x3072) ![0, 0] S1536x3072.size i₁).toLoadRect hl₁) fun v₂ =>
            .op (.load uM (Rect.unit (s := S1536x3072) ![0, 0] S1536x3072.size i₂).toLoadRect hl₂) fun v₃ =>
            .op (.load dM (Rect.unit (s := S3072x1536) ![0, 0] S3072x1536.size i₃).toLoadRect hl₃) fun v₄ =>
            .op (.load oM (Rect.unit (s := S1536x1536) off S192x1536.size inb').toLoadRect hl₄) fun _ =>
            .op (.store oM (Rect.unit (s := S1536x1536) off S192x1536.size inb'') (pf v₁ v₂ v₃ v₄) Finset.univ (hx v₁ v₂ v₃ v₄) hm) kk) Q) := by
  subst h hpf
  unfold ins
  iintro ⟨⟨Hx, Hg, Hu, Hd⟩, Ho⟩ Hk
  iapply (wp_load_rect 𝒱₀ (c : Thread nD τ) none Set.univ (m := xM) (r := rowR j) (S := Finset.univ) (Finset.subset_univ _)) $$ Hx
  iintro Hx
  iapply (wp_load 𝒱₀ (c : Thread nD τ) none Set.univ (m := gM) (Finset.subset_univ _)) $$ Hg
  iintro Hg
  iapply (wp_load 𝒱₀ (c : Thread nD τ) none Set.univ (m := uM) (Finset.subset_univ _)) $$ Hu
  iintro Hu
  iapply (wp_load 𝒱₀ (c : Thread nD τ) none Set.univ (m := dM) (Finset.subset_univ _)) $$ Hd
  iintro Hd
  rw [show gM.view.readAt (Elt F) (Rect.unit (s := S1536x3072) ![0, 0] S1536x3072.size i₁).toLoadRect (a.g c) = a.g c from
      Memref.readAt_unit_zero (Elt F) cc0_stg1_0 hz _ _,
    show uM.view.readAt (Elt F) (Rect.unit (s := S1536x3072) ![0, 0] S1536x3072.size i₂).toLoadRect (a.u c) = a.u c from
      Memref.readAt_unit_zero (Elt F) cc0_stg2_0 hz _ _,
    show dM.view.readAt (Elt F) (Rect.unit (s := S3072x1536) ![0, 0] S3072x1536.size i₃).toLoadRect (a.d c) = a.d c from
      Memref.readAt_unit_zero (Elt F) cc0_stg3_0 hz _ _]
  iapply (load_any_row c (j := j) rfl) $$ Ho
  iintro Ho
  iapply (store_row c (j := j) rfl) $$ Ho
  iintro Ho
  iapply Hk
  isplitr [Ho]
  · isplitl [Hx]; · iexact Hx
    isplitl [Hg]; · iexact Hg
    isplitl [Hu]; · iexact Hu
    iexact Hd
  · iexact Ho

end Comp

/-! ## Transfers and waits -/

theorem N_rows {off : Fin 2 → ℕ} {inb hs} : (oM.slice (Rect.unit (s := S1536x1536) off S192x1536.size inb) hs).view.dmaCredit = N := rfl
theorem N_slots {off : Fin 3 → ℕ} {inb hs sq} :
    ((bM.slice (Rect.unit (s := S2x192x1536) off S1x192x1536.size inb) hs).squeeze S192x1536 sq).view.dmaCredit = N := N_slot 0

variable (P : Dev nD → Dev nD → Row F) (K : Dev nD × Fin 34 → ℕ)

section Xfer

variable {α : Type} (c : Dev nD)

theorem dwait {Q : α → sProp 𝕄} {kk : PUnit → Prog (TpuEff nD τ sig (Elt F) Λ₀ .tc) α} (k : ℕ) {sp sp' : Space} {s s' : Shape} {e e' : EltTy} {sem : DmaSem sig}
    {src : Memref sig .tc sp' s' e'} {dst : Memref sig .tc sp s e} {hsrc hdst}
    (hsm : (.dma sem : SemLoc sig) = csem k) (hN : dst.view.dmaCredit = N) (hk : k < 28) {O S A A' C C' : Finset ℕ} (hA : k ∈ A) (hA' : A.erase k = A')
    (hC : C = insert k C') (hC' : k ∉ C') (hO : ∀ j ∈ O, lev k < lev (tcell j)) :
    iprop(facts P K ∗ Ctx c O S A C)
      ⊢ iprop(((Ctx c O S A' C' ∗ pay P c k false) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  have h := wait_step P K (Q := Q) (kk := kk) c k (wpE_waitDma2_eq (src := src) (dst := dst) (hsrc := hsrc) (hdst := hdst) 𝒱₀ (c : Thread nD τ) none Set.univ) hsm
    (by rw [hN]; unfold expc amt; rw [if_neg (by omega), if_pos hk]) (by omega) (S := S) hA hA' hC hC' hO
  unfold got at h
  rwa [if_neg (by omega)] at h

theorem swait {Q : α → sProp 𝕄} {kk : PUnit → Prog (TpuEff nD τ sig (Elt F) Λ₀ .tc) α} (k : ℕ) {sem : Sem sig} {k' : ℕ}
    (hsm : (.reg sem : SemLoc sig) = csem k) (hk' : k' = expc k) (hk : k < 34) {O S A A' C C' : Finset ℕ} (hA : k ∈ A) (hA' : A.erase k = A')
    (hC : C = insert k C') (hC' : k ∉ C') (hO : ∀ j ∈ O, lev k < lev (tcell j)) :
    iprop(facts P K ∗ Ctx c O S A C)
      ⊢ iprop(((Ctx c O S A' C' ∗ got P c k) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait sem k') kk) Q) :=
  wait_step P K (Q := Q) (kk := kk) c k (wpE_semWait_eq 𝒱₀ (c : Thread nD τ) none Set.univ) hsm hk' hk (S := S) hA hA' hC hC' hO

theorem pay_rs {s : ℕ} (hs : s < 7) (d : Bool) : pay P c (7 + s) d = payRS P c s := by
  unfold pay; rw [if_neg (by omega), if_pos (by omega), Nat.add_sub_cancel_left]
theorem pay_rsnd {t : ℕ} (ht : t < 4) (d : Bool) : pay P c (14 + t) d = payRsnd P c t := by
  unfold pay; rw [if_neg (by omega), if_neg (by omega), if_pos (by omega), Nat.add_sub_cancel_left]
theorem pay_rrcv {t : ℕ} (ht : t < 4) (d : Bool) : pay P c (18 + t) d = payRrcv P c t := by
  unfold pay; rw [if_neg (by omega), if_neg (by omega), if_neg (by omega), if_pos (by omega), Nat.add_sub_cancel_left]
theorem pay_lsnd {t : ℕ} (ht : t < 3) (d : Bool) : pay P c (22 + t) d = payLsnd P c t := by
  unfold pay; rw [if_neg (by omega), if_neg (by omega), if_neg (by omega), if_neg (by omega), if_pos (by omega), Nat.add_sub_cancel_left]
theorem pay_lrcv {t : ℕ} (ht : t < 3) (d : Bool) : pay P c (25 + t) d = payLrcv P c t := by
  unfold pay; rw [if_neg (by omega), if_neg (by omega), if_neg (by omega), if_neg (by omega), if_neg (by omega), if_pos (by omega), Nat.add_sub_cancel_left]
theorem pay_ack {s : ℕ} (hs : s < 5) (d : Bool) : pay P c (28 + s) d = payAck c s := by
  unfold pay
  rw [if_neg (by omega), if_neg (by omega), if_neg (by omega), if_neg (by omega), if_neg (by omega), if_neg (by omega), if_pos (by omega), Nat.add_sub_cancel_left]
theorem pay_bar : pay P c 33 true = payBar c := rfl
theorem pay_bar_false : pay P c 33 false = iprop(emp) := rfl

theorem rowsA_take (o j : Dev nD) {lo hi : ℕ} (h : lo < hi) : rowsA (F := F) o j lo hi ⊢ iprop(rowA (rot o lo) j ∗ rowsA o j (lo + 1) hi) :=
  bigSep_get (k := lo) (A' := Finset.Ico (lo + 1) hi) (by ext i; simp only [Finset.mem_Ico, Finset.mem_insert]; omega) (by simp only [Finset.mem_Ico]; omega)
theorem rowsA_last (o j : Dev nD) {lo hi : ℕ} (h : lo ≤ hi) : rowsA (F := F) o j lo (hi + 1) ⊢ iprop(rowA (rot o hi) j ∗ rowsA o j lo hi) :=
  bigSep_get (k := hi) (A' := Finset.Ico lo hi) (by ext i; simp only [Finset.mem_Ico, Finset.mem_insert]; omega) (by simp only [Finset.mem_Ico]; omega)
theorem rowsA_snoc (o j : Dev nD) {lo hi : ℕ} (h : lo ≤ hi) : iprop(rowA (rot o hi) j ∗ rowsA o j lo hi) ⊢ rowsA (F := F) o j lo (hi + 1) := by
  unfold rowsA
  exact bigSep_put (Φ := fun i => rowA (rot o i) j) (k := hi) (by ext i; simp only [Finset.mem_Ico, Finset.mem_insert]; omega) (by simp only [Finset.mem_Ico]; omega)

theorem send_rs {Q : α → sProp 𝕄} {kk : PUnit → Prog (TpuEff nD τ sig (Elt F) Λ₀ .tc) α} {s : ℕ} (hs : s < 7) {n : Dev nD} (hn : n = rot c 1)
    {offs : Fin 2 → ℕ} (ho : offs = ![192 * (rot c (8 - s)).val, 0]) {inbs} {offd : Fin 3 → ℕ} (hd : offd = ![s % 2, 0, 0]) {inbd hsS1 hsS2}
    {sS sem : SemLoc sig} (hsS : sS = csem s) (hse : sem = csem (7 + s)) {hsc hsrc hdst hsem} {O O' S S' A C C' : Finset ℕ}
    (hO : O = insert (7 + s) O') (hO' : 7 + s ∉ O') (hS : S = insert s S') (hS' : s ∉ S') (hC : C' = insert s C) (hC' : s ∉ C) :
    iprop(facts P K ∗ Ctx c O S A C ∗ rowO c (rot c (8 - s)) fullShare (acc P s c) ∗ slotA (rot c 1) (par s) ∗ rowsA (rot c (8 - s)) (rot c (8 - s)) 0 s)
      ⊢ iprop((Ctx c O' S' A C' -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma
          (oM.slice (Rect.unit (s := S1536x1536) offs S192x1536.size inbs) hsS1)
          (.remote (n : Thread nD τ) ((bM.slice (Rect.unit (s := S2x192x1536) offd S1x192x1536.size inbd) hsS2).squeeze S192x1536 squeezes_S1x192x1536_S192x1536) sS hsc)
          sem hsrc hdst hsem) kk) Q) := by
  subst ho hd
  have hoff : off (7 + s) = 1 := by unfold off; rw [if_neg (by omega), if_pos (by omega)]
  subst hn
  have e : rot (rot c (8 - s)) s = c := by rw [rot_rot]; exact rot_self c (by omega)
  have hp : iprop((owns (rot c 1 : Thread nD τ) (slotM (par s)) fullShare (acc P s c) ∗ rowsA (rot c (8 - s)) (rot c (8 - s)) 0 s)
      ∗ owns (c : Thread nD τ) (rowM (rot c (8 - s))) fullShare (acc P s c)) ⊢ (pay P (rot c 1) (7 + s) false : sProp 𝕄) := by
    rw [pay_rs P _ hs]
    unfold payRS
    rw [rot_rot, rot_rot, rot_self c (a := 1 + 7) rfl, show 1 + (7 - s) = 8 - s by omega]
    iintro ⟨⟨H1, H2⟩, H3⟩
    isplitl [H1]; · unfold slotO; iexact H1
    iapply (rowsA_snoc (rot c (8 - s)) (rot c (8 - s)) (Nat.zero_le s))
    rw [e]
    isplitl [H3]
    · unfold rowA rowO; iexists _; iexact H3
    · iexact H2
  have hN : (slotM (par s)).view.amount sem = N := by rw [hse]; unfold csem; rw [dif_pos (by omega)]; exact N_slot _
  exact send_landing P K c (src := rowM (rot c (8 - s))) (dst := slotM (par s)) s (7 + s) (by rw [hoff]) hsS hse hs ⟨by omega, by omega⟩
    hN (acc P s c) (rowsA (rot c (8 - s)) (rot c (8 - s)) 0 s) hO hO' hS hS' hC hC' hp

theorem send_r {Q : α → sProp 𝕄} {kk : PUnit → Prog (TpuEff nD τ sig (Elt F) Λ₀ .tc) α} {t : ℕ} (ht : t < 4) {n : Dev nD} (hn : n = rot c 1)
    {offs offd : Fin 2 → ℕ} (ho : offs = ![192 * (rot c (9 - t)).val, 0]) (hd : offd = ![192 * (rot c (9 - t)).val, 0]) {inbs inbd hsS1 hsS2}
    {sS sem : SemLoc sig} (hsS : sS = csem (14 + t)) (hse : sem = csem (18 + t)) {hsc hsrc hdst hsem} {O O' S S' A C C' : Finset ℕ}
    (hO : O = insert (18 + t) O') (hO' : 18 + t ∉ O') (hS : S = insert (14 + t) S') (hS' : 14 + t ∉ S') (hC : C' = insert (14 + t) C) (hC' : 14 + t ∉ C) :
    iprop(facts P K ∗ Ctx c O S A C ∗ rowO c (rot c (9 - t)) (shR t) (fin P (rot c (9 - t))) ∗ rowsA (rot c (8 - t)) (rot c (9 - t)) (t + 1) 5)
      ⊢ iprop((Ctx c O' S' A C' -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma
          (oM.slice (Rect.unit (s := S1536x1536) offs S192x1536.size inbs) hsS1)
          (.remote (n : Thread nD τ) (oM.slice (Rect.unit (s := S1536x1536) offd S192x1536.size inbd) hsS2) sS hsc)
          sem hsrc hdst hsem) kk) Q) := by
  subst ho hd
  have hoff : off (18 + t) = 1 := by unfold off; rw [if_neg (by omega), if_neg (by omega), if_neg (by omega), if_pos (by omega)]
  have hoff₁ : off (14 + t) = 0 := by unfold off; rw [if_neg (by omega), if_neg (by omega), if_pos (by omega)]
  subst hn
  have e : rot (rot c (8 - t)) (t + 1) = rot c 1 := by rw [rot_rot]; exact rot_mod c (by omega)
  have hp : iprop(owns (rot c 1 : Thread nD τ) (rowM (rot c (9 - t))) fullShare (fin P (rot c (9 - t))) ∗ rowsA (rot c (8 - t)) (rot c (9 - t)) (t + 2) 5)
      ⊢ (pay P (rot c 1) (18 + t) false : sProp 𝕄) := by
    rw [pay_rrcv P _ ht]
    unfold payRrcv
    rw [rot_rot, rot_rot, show 1 + (8 - t) = 9 - t by omega, show 1 + (7 - t) = 8 - t by omega]
    exact .rfl
  have hN : (rowM (rot c (9 - t))).view.amount sem = N := by rw [hse]; unfold csem; rw [dif_pos (by omega)]; exact N_row _
  have h := send_keep P K (Q := Q) (kk := kk) c (src := rowM (rot c (9 - t))) (dst := rowM (rot c (9 - t))) (hsc := hsc) (hsrc := hsrc) (hdst := hdst) (hsem := hsem)
    (14 + t) (18 + t) (by rw [hoff]) hsS hse (by omega) hoff₁ (by omega)
    hN (fin P (rot c (9 - t))) (shR t) (rowsA (rot c (8 - t)) (rot c (9 - t)) (t + 2) 5) (A := A) hO hO' hS hS' hC hC' (by rw [pay_rsnd P _ ht]; exact .rfl) hp
  have ht' := rowsA_take (F := F) (rot c (8 - t)) (rot c (9 - t)) (lo := t + 1) (hi := 5) (by omega)
  rw [e] at ht'
  iintro ⟨#HF, HC, Hr, Hw⟩
  ihave ⟨Hw, Hws⟩ := ht' $$ Hw
  iapply h
  isplitr; · iexact HF
  isplitl [HC]; · iexact HC
  isplitl [Hr]; · unfold rowO; iexact Hr
  isplitl [Hw]; · unfold rowA rowO; iexact Hw
  iexact Hws

theorem send_l {Q : α → sProp 𝕄} {kk : PUnit → Prog (TpuEff nD τ sig (Elt F) Λ₀ .tc) α} {t : ℕ} (ht : t < 3) {n : Dev nD} (hn : n = rot c 7)
    {offs offd : Fin 2 → ℕ} (ho : offs = ![192 * (rot c (1 + t)).val, 0]) (hd : offd = ![192 * (rot c (1 + t)).val, 0]) {inbs inbd hsS1 hsS2}
    {sS sem : SemLoc sig} (hsS : sS = csem (22 + t)) (hse : sem = csem (25 + t)) {hsc hsrc hdst hsem} {O O' S S' A C C' : Finset ℕ}
    (hO : O = insert (25 + t) O') (hO' : 25 + t ∉ O') (hS : S = insert (22 + t) S') (hS' : 22 + t ∉ S') (hC : C' = insert (22 + t) C) (hC' : 22 + t ∉ C) :
    iprop(facts P K ∗ Ctx c O S A C ∗ rowO c (rot c (1 + t)) (shL t) (fin P (rot c (1 + t))) ∗ rowsA (rot c t) (rot c (1 + t)) 5 (8 - t))
      ⊢ iprop((Ctx c O' S' A C' -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma
          (oM.slice (Rect.unit (s := S1536x1536) offs S192x1536.size inbs) hsS1)
          (.remote (n : Thread nD τ) (oM.slice (Rect.unit (s := S1536x1536) offd S192x1536.size inbd) hsS2) sS hsc)
          sem hsrc hdst hsem) kk) Q) := by
  subst ho hd
  have hoff : off (25 + t) = 7 := by
    unfold off; rw [if_neg (by omega), if_neg (by omega), if_neg (by omega), if_neg (by omega), if_neg (by omega), if_pos (by omega)]
  have hoff₁ : off (22 + t) = 0 := by
    unfold off; rw [if_neg (by omega), if_neg (by omega), if_neg (by omega), if_neg (by omega), if_pos (by omega)]
  subst hn
  have e : rot (rot c t) (7 - t) = rot c 7 := by rw [rot_rot]; exact rot_mod c (by omega)
  have hp : iprop(owns (rot c 7 : Thread nD τ) (rowM (rot c (1 + t))) fullShare (fin P (rot c (1 + t))) ∗ rowsA (rot c t) (rot c (1 + t)) 5 (7 - t))
      ⊢ (pay P (rot c 7) (25 + t) false : sProp 𝕄) := by
    rw [pay_lrcv P _ ht]
    unfold payLrcv
    rw [rot_rot, rot_rot, rot_mod c (show (7 + (2 + t)) % 8 = (1 + t) % 8 by omega), rot_mod c (show (7 + (1 + t)) % 8 = t % 8 by omega)]
    exact .rfl
  have hN : (rowM (rot c (1 + t))).view.amount sem = N := by rw [hse]; unfold csem; rw [dif_pos (by omega)]; exact N_row _
  have h := send_keep P K (Q := Q) (kk := kk) c (src := rowM (rot c (1 + t))) (dst := rowM (rot c (1 + t))) (hsc := hsc) (hsrc := hsrc) (hdst := hdst) (hsem := hsem)
    (22 + t) (25 + t) (by rw [hoff]) hsS hse (by omega) hoff₁ (by omega)
    hN (fin P (rot c (1 + t))) (shL t) (rowsA (rot c t) (rot c (1 + t)) 5 (7 - t)) (A := A) hO hO' hS hS' hC hC' (by rw [pay_lsnd P _ ht]; exact .rfl) hp
  have ht' := rowsA_last (F := F) (rot c t) (rot c (1 + t)) (lo := 5) (hi := 7 - t) (by omega)
  rw [e, show 7 - t + 1 = 8 - t by omega] at ht'
  iintro ⟨#HF, HC, Hr, Hw⟩
  ihave ⟨Hw, Hws⟩ := ht' $$ Hw
  iapply h
  isplitr; · iexact HF
  isplitl [HC]; · iexact HC
  isplitl [Hr]; · unfold rowO; iexact Hr
  isplitl [Hw]; · unfold rowA rowO; iexact Hw
  iexact Hws

end Xfer

end Cert.KernelIdeal.Mlp

end
-- ==== Proof.Ideal.Trip.lean ====
/- One step of the reduce-scatter, and the loop of its seven steps. -/
module

public import proofs.«01_k».proof.Proof.Ideal.Ops

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The bookkeeping between steps -/

/-- Debts: reduce-scatter sends from `a`, gather sends, acknowledgements from `b`. -/
def OS (a b : ℕ) : Finset ℕ := (Finset.range 35).filter fun k => (a ≤ k ∧ k < 14) ∨ (18 ≤ k ∧ k < 22) ∨ (25 ≤ k ∧ k < 28) ∨ (b ≤ k ∧ k < 33)
/-- Unused completions of the device's own sends. -/
def SS (a : ℕ) : Finset ℕ := (Finset.range 35).filter fun k => (a ≤ k ∧ k < 7) ∨ (14 ≤ k ∧ k < 18) ∨ (22 ≤ k ∧ k < 25)
/-- Semaphores not yet waited on. -/
def AS (a b d : ℕ) : Finset ℕ := (Finset.range 35).filter fun k => (a ≤ k ∧ k < 7) ∨ (b ≤ k ∧ k < 14) ∨ (14 ≤ k ∧ k < 28) ∨ (d ≤ k ∧ k < 33)
/-- Waits promised for. -/
def CS (a a' b d : ℕ) : Finset ℕ :=
  (Finset.range 35).filter fun k => (a ≤ k ∧ k < a') ∨ (b ≤ k ∧ k < 14) ∨ (18 ≤ k ∧ k < 22) ∨ (25 ≤ k ∧ k < 28) ∨ (d ≤ k ∧ k < 33)

theorem mem_OS {a b k : ℕ} : k ∈ OS a b ↔ k < 35 ∧ ((a ≤ k ∧ k < 14) ∨ (18 ≤ k ∧ k < 22) ∨ (25 ≤ k ∧ k < 28) ∨ (b ≤ k ∧ k < 33)) := by
  unfold OS; rw [Finset.mem_filter, Finset.mem_range]
theorem mem_SS {a k : ℕ} : k ∈ SS a ↔ k < 35 ∧ ((a ≤ k ∧ k < 7) ∨ (14 ≤ k ∧ k < 18) ∨ (22 ≤ k ∧ k < 25)) := by
  unfold SS; rw [Finset.mem_filter, Finset.mem_range]
theorem mem_AS {a b d k : ℕ} : k ∈ AS a b d ↔ k < 35 ∧ ((a ≤ k ∧ k < 7) ∨ (b ≤ k ∧ k < 14) ∨ (14 ≤ k ∧ k < 28) ∨ (d ≤ k ∧ k < 33)) := by
  unfold AS; rw [Finset.mem_filter, Finset.mem_range]
theorem mem_CS {a a' b d k : ℕ} : k ∈ CS a a' b d ↔
    k < 35 ∧ ((a ≤ k ∧ k < a') ∨ (b ≤ k ∧ k < 14) ∨ (18 ≤ k ∧ k < 22) ∨ (25 ≤ k ∧ k < 28) ∨ (d ≤ k ∧ k < 33)) := by
  unfold CS; rw [Finset.mem_filter, Finset.mem_range]

theorem tcell_OS {a b k : ℕ} (h : k ∈ OS a b) : tcell k = k := by rw [mem_OS] at h; exact tcell_of_lt (by omega)

theorem lev_ack {s : ℕ} (h : 28 ≤ s ∧ s < 33) : lev s = 3 + 2 * (s - 28) := by
  unfold lev; rw [if_neg (by omega), if_neg (by omega), if_neg (by omega), if_neg (by omega), if_neg (by omega), if_neg (by omega), if_pos (by omega)]
theorem lev_rs {s : ℕ} (h : 7 ≤ s ∧ s < 14) : lev s = 2 + 2 * (s - 7) := by
  unfold lev; rw [if_neg (by omega), if_pos (by omega)]
theorem lev_snd {s : ℕ} (h : s < 7) : lev s = 0 := by unfold lev; rw [if_pos h]
theorem lev_OS {a b k n : ℕ} (h : k ∈ OS a b) (ha : a < 14 → n < 2 + 2 * (a - 7)) (ha7 : 7 ≤ a) (hb : b < 33 → n < 3 + 2 * (b - 28)) (hb28 : 28 ≤ b) (hn : n < 30) :
    n < lev (tcell k) := by
  rw [tcell_OS h]; rw [mem_OS] at h
  unfold lev; (repeat' split) <;> omega

variable (P : Dev nD → Dev nD → Row F) (K : Dev nD × Fin 34 → ℕ) (c : Dev nD)

/-- What a device holds of the row blocks and slots before step `s`. -/
def Mem (s : ℕ) : sProp 𝕄 :=
  iprop(bigSep (Finset.Ico (s + 1) 8) (fun i => rowA c (rot c (8 - i))) ∗ rowO c (rot c (8 - s)) fullShare (acc P s c)
    ∗ rowsA (rot c (8 - s)) (rot c (8 - s)) 0 s ∗ bigSep (Finset.Ico s 2) (fun i => slotA (rot c 1) (par i))
    ∗ bigSep (Finset.Ico 5 s) (fun i => slotA c (par i)))

def Inv (a : Args F) (s : ℕ) : sProp 𝕄 :=
  iprop(facts P K ∗ Ctx c (OS (7 + s) (28 + s)) (SS s) (AS s (7 + s) (28 + (s - 2))) (CS s s (7 + s) (28 + (s - 2))) ∗ ins a c ∗ Mem P c s)

theorem par_add (s : ℕ) : par (s + 2) = par s := by unfold par; exact Fin.ext (by show (s + 2) % 2 = s % 2; omega)

/-- The room in the right neighbour's slot: given at the start for the first two steps, acknowledged after. -/
theorem room {α : Type} {Q : α → sProp 𝕄} {q : Prog (TpuEff nD τ sig (Elt F) Λ₀ .tc) α} {O S : Finset ℕ} {s a b : ℕ} (hs : s < 7) (hO : O = OS (7 + s) (28 + s))
    {cond : Prop} [Decidable cond] (hc : cond ↔ 2 ≤ s) {sem : cond → Sem sig} (hsem : ∀ h, (.reg (sem h) : SemLoc sig) = csem (28 + (s - 2))) {k' : ℕ} (hk' : k' = 1) :
    iprop(facts P K ∗ Ctx c O S (AS a b (28 + (s - 2))) (CS a a b (28 + (s - 2))) ∗ bigSep (Finset.Ico s 2) (fun i => slotA (rot c 1) (par i)))
      ⊢ iprop((Ctx c O S (AS a b (28 + (s - 1))) (CS a a b (28 + (s - 1))) ∗ slotA (rot c 1) (par s) ∗ bigSep (Finset.Ico (s + 1) 2) (fun i => slotA (rot c 1) (par i))
          -∗ wp frame (wpE (defs₀ (F := F)) 𝒱₀ (c : Thread nD τ) none) Set.univ q Q)
        -∗ wp frame (wpE (defs₀ (F := F)) 𝒱₀ (c : Thread nD τ) none) Set.univ (dite cond (fun h => .op (.semWait (sem h) k') fun _ => q) (fun _ => q)) Q) := by
  by_cases h2 : 2 ≤ s
  · have hcond := hc.mpr h2
    rw [dif_pos hcond]
    have hg : got P c (28 + (s - 2)) = slotA (rot c 1) (par s) := by
      unfold got; rw [if_neg (by omega), pay_ack P c (by omega)]; unfold payAck
      rw [← par_add (s - 2), Nat.sub_add_cancel h2]
    iintro ⟨#HF, HC, Hs⟩ Hk
    iapply (swait P K c (28 + (s - 2)) (kk := fun _ => q) (O := O) (S := S) (A := AS a b (28 + (s - 2))) (A' := AS a b (28 + (s - 1))) (C := CS a a b (28 + (s - 2))) (C' := CS a a b (28 + (s - 1))) (hsem hcond)
      (by rw [hk']; unfold expc amt; rw [if_neg (by omega), if_neg (by omega)]) (by omega)
      (by rw [mem_AS]; omega) (by ext k; simp only [mem_AS, Finset.mem_erase]; omega)
      (by ext k; simp only [mem_CS, Finset.mem_insert]; omega) (by rw [mem_CS]; omega)
      (by intro j hj; rw [hO] at hj; rw [lev_ack (by omega)]; exact lev_OS hj (by omega) (by omega) (by omega) (by omega) (by omega))) $$ [HC]
    · isplitr [HC]; · iexact HF
      iexact HC
    iintro ⟨HC, Hg⟩
    ihave Hg := (Entails.of_eq hg) $$ Hg
    iapply Hk
    isplitl [HC]; · iexact HC
    isplitl [Hg]; · iexact Hg
    rw [show Finset.Ico s 2 = Finset.Ico (s + 1) 2 by rw [Finset.Ico_eq_empty (by omega), Finset.Ico_eq_empty (by omega)]]
    iexact Hs
  · rw [dif_neg (fun h => h2 (hc.mp h))]
    have hb := bigSep_get (Φ := fun i => slotA (F := F) (rot c 1) (par i)) (A := Finset.Ico s 2) (k := s) (A' := Finset.Ico (s + 1) 2)
      (by ext i; simp only [Finset.mem_Ico, Finset.mem_insert]; omega) (by simp only [Finset.mem_Ico]; omega)
    iintro ⟨#HF, HC, Hs⟩ Hk
    ihave ⟨H1, H2⟩ := hb $$ Hs
    rw [show s - 2 = s - 1 by omega]
    iapply Hk
    isplitl [HC]; · iexact HC
    isplitl [H1]; · iexact H1
    iexact H2

/-- The acknowledgement after step `s`; a slot no later step needs is kept. -/
theorem ack {α : Type} {Q : α → sProp 𝕄} {q : Prog (TpuEff nD τ sig (Elt F) Λ₀ .tc) α} {S A C : Finset ℕ} {s a : ℕ} (hs : s < 7)
    {cond : Prop} [Decidable cond] (hc : cond ↔ s < 5) {n : cond → Dev nD} (hn : ∀ h, n h = rot c 7) {sem : cond → Sem sig}
    (hsem : ∀ h, (.reg (sem h) : SemLoc sig) = csem (28 + s)) {k' : ℕ} (hk' : k' = 1) :
    iprop(facts P K ∗ Ctx c (OS a (28 + s)) S A C ∗ slotA c (par s) ∗ bigSep (Finset.Ico 5 s) (fun i => slotA c (par i)))
      ⊢ iprop((Ctx c (OS a (28 + (s + 1))) S A C ∗ bigSep (Finset.Ico 5 (s + 1)) (fun i => slotA c (par i)) -∗ wp frame (wpE (defs₀ (F := F)) 𝒱₀ (c : Thread nD τ) none) Set.univ q Q)
        -∗ wp frame (wpE (defs₀ (F := F)) 𝒱₀ (c : Thread nD τ) none) Set.univ (dite cond (fun h => .op (.semSignal (n h : Thread nD τ) (sem h) k') fun _ => q) (fun _ => q)) Q) := by
  by_cases h5 : s < 5
  · have hcond := hc.mpr h5
    have hoff : off (28 + s) = 7 := by
      unfold off; rw [if_neg (by omega), if_neg (by omega), if_neg (by omega), if_neg (by omega), if_neg (by omega), if_pos (by omega)]
    rw [dif_pos hcond, hn]
    have hg : pay P (rot c (off (28 + s))) (tcell (28 + s)) (tduty (28 + s)) = slotA c (par s) := by
      rw [tcell_of_lt (by omega), hoff, pay_ack P _ h5]; unfold payAck; rw [rot_rot, rot_self c (by omega)]
    iintro ⟨#HF, HC, Hs, Hk⟩ Hq
    iapply (signal_step P K c (28 + s) (kk := fun _ => q) (O := OS a (28 + s)) (O' := OS a (28 + (s + 1))) (S := S) (A := A) (C := C)
      (by show _ = cell (rot c (off (28 + s))) (tcell (28 + s)); rw [hoff, tcell_of_lt (by omega), hsem]) hk' ⟨by omega, by omega⟩
      (by ext k; simp only [mem_OS, Finset.mem_insert]; omega) (by rw [mem_OS]; omega) (Topo.routes_tc _ _)) $$ [HC Hs]
    · isplitr [HC Hs]; · iexact HF
      isplitl [HC]; · iexact HC
      rw [hg]; iexact Hs
    iintro HC
    iapply Hq
    isplitl [HC]; · iexact HC
    rw [show Finset.Ico 5 (s + 1) = Finset.Ico 5 s by rw [Finset.Ico_eq_empty (by omega), Finset.Ico_eq_empty (by omega)]]
    iexact Hk
  · rw [dif_neg (fun h => h5 (hc.mp h))]
    have hb := bigSep_put (Φ := fun i => slotA (F := F) c (par i)) (A := Finset.Ico 5 (s + 1)) (k := s) (A' := Finset.Ico 5 s)
      (by ext i; simp only [Finset.mem_Ico, Finset.mem_insert]; omega) (by simp only [Finset.mem_Ico]; omega)
    iintro ⟨#HF, HC, Hs, Hk⟩ Hq
    rw [show OS a (28 + s) = OS a (28 + (s + 1)) by ext k; simp only [mem_OS]; omega]
    iapply Hq
    isplitl [HC]; · iexact HC
    iapply hb
    isplitl [Hs]; · iexact Hs
    iexact Hk

abbrev body7 (t : Fin k0_t1_loop.trips) (h0 : xM.IsWhole) (h1 : gM.IsWhole) (h2 : uM.IsWhole) (h3 : dM.IsWhole) (h4 : oM.IsWhole) (h5 : bM.IsWhole)
    (v2 v13 v24 v35 : BitVec 32) : Prog (TpuEff nD τ sig (Elt F) Λ₀ .tc) Unit :=
  k0_t1_body xM h0 gM h1 uM h2 dM h3 oM h4 bM h5 cc0_scratch1 cc0_scratch2 cc0_scratch3 cc0_scratch4 cc0_scratch5 cc0_scratch6 cc0_scratch7 c v2 v13 v24 v35 t ⟨⟩

theorem trip (a : Args F) (t : Fin k0_t1_loop.trips) (h0 h1 h2 h3 h4 h5) (v2 v13 v24 v35 : BitVec 32) :
    Inv (part a) K c a t.val ⊢ wp frame (wpE (defs₀ (F := F)) 𝒱₀ (c : Thread nD τ) none) Set.univ (body7 c t h0 h1 h2 h3 h4 h5 v2 v13 v24 v35)
      fun _ => Inv (part a) K c a (t.val + 1) := by
  have ht : t.val < 7 := trip_lt t
  unfold body7 k0_t1_body
  simp only [k0_part1_eq_skeleton, k0_part2_eq_skeleton]
  unfold k0_part1_skel k0_part2_skel
  simp only [semSignalWord, semWaitWord, Prog.lift, Prog.bind_op, Prog.bind_ret, Prog.pure_eq_ret, wp_bind]
  have hrow := bigSep_get (Φ := fun i => rowA (F := F) c (rot c (8 - i))) (A := Finset.Ico (t.val + 1) 8) (k := t.val + 1) (A' := Finset.Ico (t.val + 1 + 1) 8)
    (by ext i; simp only [Finset.mem_Ico, Finset.mem_insert]; omega) (by simp only [Finset.mem_Ico]; omega)
  rw [show 8 - (t.val + 1) = 7 - t.val by omega] at hrow
  generalize hT : t.val = s at *
  unfold Inv Mem
  iintro ⟨#HF, HC, Hin, Hrows, Hacc, Hws, Hnx, Hkept⟩
  iapply (room (part a) K c ht (s := s) rfl (by rw [cond1_iff, hT]) (fun h => sem_arr7 (s := s - 2) (by rw [off2_eq t (by rw [cond1_iff] at h; omega), hT]) (by omega)) rfl) $$ [HC Hnx]
  · isplitr [HC Hnx]; · iexact HF
    isplitl [HC]; · iexact HC
    iexact Hnx
  iintro ⟨HC, Hslot, Hnx⟩
  iapply (send_rs (part a) K c (s := s) ht (dev3_eq c) (by rw [off5_eq, hT]) (by rw [off4_eq, hT]) (sem_arr1 (by rw [off3_eq, hT]) ht) (sem_arr2 (by rw [off3_eq, hT]) ht)
    (O := OS (7 + s) (28 + s)) (O' := OS (8 + s) (28 + s)) (S := SS s) (S' := SS (s + 1)) (C := CS s s (7 + s) (28 + (s - 1))) (C' := CS s (s + 1) (7 + s) (28 + (s - 1)))
    (by ext k; simp only [mem_OS, Finset.mem_insert]; omega) (by rw [mem_OS]; omega)
    (by ext k; simp only [mem_SS, Finset.mem_insert]; omega) (by rw [mem_SS]; omega)
    (by ext k; simp only [mem_CS, Finset.mem_insert]; omega) (by rw [mem_CS]; omega)) $$ [HC Hacc Hslot Hws]
  · isplitr [HC Hacc Hslot Hws]; · iexact HF
    isplitl [HC]; · iexact HC
    isplitl [Hacc]; · iexact Hacc
    isplitl [Hslot]; · iexact Hslot
    iexact Hws
  iintro HC
  simp only [wp_ret]
  imodintro
  ihave ⟨Hrow, Hrows⟩ := hrow $$ Hrows
  iapply (compute c a (j := rot c (7 - s)) (by rw [off6_eq, hT]) rfl) $$ [Hin Hrow]
  · isplitl [Hin]; · iexact Hin
    iexact Hrow
  iintro ⟨Hin, Hrow⟩
  iapply (dwait (part a) K c (7 + s) (sem_arr2 (by rw [off3_eq, hT]) ht) N_slots (by omega) (O := OS (8 + s) (28 + s)) (S := SS (s + 1))
    (A := AS s (7 + s) (28 + (s - 1))) (A' := AS s (8 + s) (28 + (s - 1))) (C := CS s (s + 1) (7 + s) (28 + (s - 1))) (C' := CS s (s + 1) (8 + s) (28 + (s - 1)))
    (by rw [mem_AS]; omega) (by ext k; simp only [mem_AS, Finset.mem_erase]; omega)
    (by ext k; simp only [mem_CS, Finset.mem_insert]; omega) (by rw [mem_CS]; omega)
    (by intro j hj; rw [lev_rs (by omega)]; exact lev_OS hj (by omega) (by omega) (by omega) (by omega) (by omega))) $$ [HC]
  · isplitr [HC]; · iexact HF
    iexact HC
  rw [pay_rs (part a) c ht]
  unfold payRS
  iintro ⟨HC, Hslot, Hws⟩
  iapply (load_row c (j := rot c (7 - s)) (by rw [off6_eq, hT])) $$ Hrow
  iintro Hrow
  iapply (load_slot c (i := par s) (by rw [off7_eq, hT]; rfl)) $$ Hslot
  iintro Hslot
  iapply (load_row c (j := rot c (7 - s)) (by rw [off6_eq, hT])) $$ Hrow
  iintro Hrow
  iapply (store_row c (j := rot c (7 - s)) (by rw [off6_eq, hT])) $$ [Hrow]
  · unfold rowA; iexists _; iexact Hrow
  iintro Hrow
  iapply (ack (part a) K c ht (cond := k0_cond2 t = 1#1) (n := fun h => ⟨k0_dev4 c, k0_dev4_lt c t h⟩) (by rw [cond2_iff, hT]) (fun h => dev4_eq c (k0_dev4_lt c t h)) (fun h => sem_arr7 (s := s) (by rw [off8_eq t (by rw [cond2_iff] at h; omega), hT]) (by rw [cond2_iff] at h; omega)) rfl) $$ [HC Hslot Hkept]
  · isplitr [HC Hslot Hkept]; · iexact HF
    isplitl [HC]; · iexact HC
    isplitl [Hslot]; · iexact Hslot
    iexact Hkept
  iintro ⟨HC, Hkept⟩
  iapply (dwait (part a) K c s (sem_arr1 (by rw [off3_eq, hT]) ht) N_rows (by omega) (O := OS (8 + s) (28 + (s + 1))) (S := SS (s + 1))
    (A := AS s (8 + s) (28 + (s - 1))) (A' := AS (s + 1) (7 + (s + 1)) (28 + (s + 1 - 2))) (C := CS s (s + 1) (8 + s) (28 + (s - 1))) (C' := CS (s + 1) (s + 1) (7 + (s + 1)) (28 + (s + 1 - 2)))
    (by rw [mem_AS]; omega) (by ext k; simp only [mem_AS, Finset.mem_erase]; omega)
    (by ext k; simp only [mem_CS, Finset.mem_insert]; omega) (by rw [mem_CS]; omega)
    (by intro j hj; rw [lev_snd (by omega)]; exact lev_OS hj (by omega) (by omega) (by omega) (by omega) (by omega))) $$ [HC]
  · isplitr [HC]; · iexact HF
    iexact HC
  iintro ⟨HC, He⟩
  simp only [wp_ret]
  imodintro
  isplitr [HC Hin Hrows Hrow Hws Hnx Hkept]; · iexact HF
  isplitl [HC]; · rw [show 7 + (s + 1) = 8 + s by omega]; iexact HC
  isplitl [Hin]; · iexact Hin
  isplitl [Hrows]; · iexact Hrows
  rw [show 8 - (s + 1) = 7 - s by omega]
  isplitl [Hrow]; · iexact Hrow
  isplitl [Hws]; · iexact Hws
  isplitl [Hnx]; · iexact Hnx
  iexact Hkept

end Cert.KernelIdeal.Mlp

end
-- ==== Proof.Ideal.Gather.lean ====
/- The result buffer as its eight row blocks and the receive buffer as its two slots; what the gather's messages hold. -/
module

public import proofs.«01_k».proof.Proof.Ideal.Trip

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Row blocks -/

theorem rowR_disj (j j' : Dev nD) (h : j ≠ j') : Disjoint (rowR j).set (rowR j').set :=
  Rect.unit_disjoint 0 <| by
    have : j.val ≠ j'.val := fun e => h (Fin.ext e)
    show 192 * j.val + 192 ≤ 192 * j'.val ∨ 192 * j'.val + 192 ≤ 192 * j.val
    omega

/-- Where an element of the result lies: its row block, and its place in it. -/
def blkOf (i : S1536x1536.Idx) : Dev nD := ⟨(i 0).val / 192, by have : (i 0).val < 1536 := (i 0).isLt; show _ < 8; omega⟩
def inBlk (i : S1536x1536.Idx) : S192x1536.Idx := fun
  | ⟨0, _⟩ => ⟨(i 0).val % 192, Nat.mod_lt _ (by decide)⟩
  | ⟨1, _⟩ => ⟨(i 1).val, (i 1).isLt⟩

theorem emb_blk (i : S1536x1536.Idx) : (rowR (blkOf i)).emb (inBlk i) = i := by
  funext a; fin_cases a <;> apply Fin.ext
  · show 192 * ((i 0).val / 192) + 1 * ((i 0).val % 192) = (i 0).val; omega
  · show 0 + 1 * (i 1).val = (i 1).val; omega
theorem blk_emb (j : Dev nD) (y : S192x1536.Idx) : blkOf ((rowR j).emb y) = j := by
  apply Fin.ext
  have : (y 0).val < 192 := (y 0).isLt
  show (192 * j.val + 1 * (y 0).val) / 192 = j.val; omega
theorem inBlk_emb (j : Dev nD) (y : S192x1536.Idx) : inBlk ((rowR j).emb y) = y := by
  funext a; fin_cases a <;> apply Fin.ext
  · have : (y 0).val < 192 := (y 0).isLt
    show (192 * j.val + 1 * (y 0).val) % 192 = (y 0).val; omega
  · show 0 + 1 * (y 1).val = (y 1).val; omega

theorem rowR_cover : (Finset.univ : Finset (Dev nD)).biUnion (fun j => (rowR j).set) = Finset.univ := by
  ext i
  simp only [Finset.mem_biUnion, Finset.mem_univ, true_and, iff_true]
  refine ⟨blkOf i, ?_⟩
  rw [← Rect.map_emb_univ]
  exact Finset.mem_map.mpr ⟨inBlk i, Finset.mem_univ _, emb_blk i⟩

theorem rows8 (c : Dev nD) (Φ : Dev nD → sProp 𝕄) :
    bigSep Finset.univ Φ = iprop(Φ (rot c 1) ∗ Φ (rot c 2) ∗ Φ (rot c 3) ∗ Φ (rot c 4) ∗ Φ (rot c 5) ∗ Φ (rot c 6) ∗ Φ (rot c 7) ∗ Φ (rot c 8)) :=
  bigSep_univ_eq_bigSepL [rot c 1, rot c 2, rot c 3, rot c 4, rot c 5, rot c 6, rot c 7, rot c 8] (by revert c; decide) (by revert c; decide) Φ

/-- The whole result from its row blocks. -/
def whole (X : Dev nD → Row F) : (cc0_stg4_0 : Ref sig .tc).ty.Contents (Elt F) := fun i => X (blkOf i) (inBlk i)

theorem out_split (c : Dev nD) (f : (cc0_stg4_0 : Ref sig .tc).ty.Contents (Elt F)) :
    (((c : Thread nD τ).loc cc0_stg4_0) ↦{fullShare} f) ⊢ (bigSep Finset.univ fun j => rowA c j : sProp 𝕄) := by
  have h2 := owns_rects (Ix := Unit) (Name := ℕ) (U := UU) (Lvl := ℕ) (c : Thread nD τ) oM fullShare rowR rowR_stride rowR_disj rowR_cover f
  rw [show (owns (c : Thread nD τ) oM fullShare f : sProp 𝕄) = _ from owns_whole (c : Thread nD τ) cc0_stg4_0 fullShare f] at h2
  refine h2.trans (bigSep_mono fun j _ => ?_)
  have h : (rowO c j fullShare (fun y => f ((rowR j).emb y)) : sProp 𝕄) ⊢ rowA c j := by
    unfold rowA
    iintro H
    iexists _; iexact H
  exact h

theorem pick2 {A B C : Type} (X : A → B → C) {k j : A} {z y : B} (h : k = j) (h' : z = y) : X k z = X j y := by rw [h, h']

theorem out_join (c : Dev nD) (X : Dev nD → Row F) :
    (bigSep Finset.univ fun j => rowO c j fullShare (X j)) ⊢ ((((c : Thread nD τ).loc cc0_stg4_0) ↦{fullShare} whole X) : sProp 𝕄) := by
  have h2 := owns_of_rects (Ix := Unit) (Name := ℕ) (U := UU) (Lvl := ℕ) (c : Thread nD τ) oM fullShare rowR rowR_stride rowR_disj rowR_cover (whole X)
  rw [show (owns (c : Thread nD τ) oM fullShare (whole X) : sProp 𝕄) = _ from owns_whole (c : Thread nD τ) cc0_stg4_0 fullShare (whole X)] at h2
  refine BIBase.Entails.trans (bigSep_mono fun j _ => ?_) h2
  rw [show (fun y => whole X ((rowR j).emb y)) = X j from funext fun y => pick2 X (blk_emb j y) (inBlk_emb j y)]
  exact (show (rowO c j fullShare (X j) : sProp 𝕄) ⊢ rowO c j fullShare (X j) by iintro H; iexact H)

/-! ## Slots -/

theorem slotR_disj (i i' : Fin 2) (h : i ≠ i') : Disjoint (slotR i).set (slotR i').set :=
  Rect.unit_disjoint 0 <| by
    have : i.val ≠ i'.val := fun e => h (Fin.ext e)
    show i.val + 1 ≤ i'.val ∨ i'.val + 1 ≤ i.val
    omega

def slotOf (i : S2x192x1536.Idx) : Fin 2 := ⟨(i 0).val, (i 0).isLt⟩
def inSlot (i : S2x192x1536.Idx) : S1x192x1536.Idx := fun
  | ⟨0, _⟩ => ⟨0, Nat.one_pos⟩
  | ⟨1, _⟩ => ⟨(i 1).val, (i 1).isLt⟩
  | ⟨2, _⟩ => ⟨(i 2).val, (i 2).isLt⟩

theorem emb_slot (i : S2x192x1536.Idx) : (slotR (slotOf i)).emb (inSlot i) = i := by
  funext a; fin_cases a <;> apply Fin.ext
  · show (i 0).val + 1 * 0 = (i 0).val; omega
  · show 0 + 1 * (i 1).val = (i 1).val; omega
  · show 0 + 1 * (i 2).val = (i 2).val; omega
theorem slot_emb (j : Fin 2) (y : S1x192x1536.Idx) : slotOf ((slotR j).emb y) = j := by
  apply Fin.ext
  have : (y 0).val < 1 := (y 0).isLt
  show j.val + 1 * (y 0).val = j.val; omega
theorem inSlot_emb (j : Fin 2) (y : S1x192x1536.Idx) : inSlot ((slotR j).emb y) = y := by
  funext a; fin_cases a <;> apply Fin.ext
  · have : (y 0).val < 1 := (y 0).isLt
    show 0 = (y 0).val; omega
  · show 0 + 1 * (y 1).val = (y 1).val; omega
  · show 0 + 1 * (y 2).val = (y 2).val; omega

theorem slotR_cover : (Finset.univ : Finset (Fin 2)).biUnion (fun j => (slotR j).set) = Finset.univ := by
  ext i
  simp only [Finset.mem_biUnion, Finset.mem_univ, true_and, iff_true]
  refine ⟨slotOf i, ?_⟩
  rw [← Rect.map_emb_univ]
  exact Finset.mem_map.mpr ⟨inSlot i, Finset.mem_univ _, emb_slot i⟩

theorem bigSep_two (Φ : Fin 2 → sProp 𝕄) : bigSep Finset.univ Φ = iprop(Φ 0 ∗ Φ 1) := bigSep_univ_eq_bigSepL [0, 1] (by decide) (by decide) Φ

theorem slots_split (c : Dev nD) (f : (cc0_scratch0 : Ref sig .tc).ty.Contents (Elt F)) :
    (((c : Thread nD τ).loc cc0_scratch0) ↦{fullShare} f) ⊢ (iprop(slotA c 0 ∗ slotA c 1) : sProp 𝕄) := by
  have h2 := owns_rects (Ix := Unit) (Name := ℕ) (U := UU) (Lvl := ℕ) (c : Thread nD τ) bM fullShare slotR slotR_stride slotR_disj slotR_cover f
  rw [show (owns (c : Thread nD τ) bM fullShare f : sProp 𝕄) = _ from owns_whole (c : Thread nD τ) cc0_scratch0 fullShare f] at h2
  exact h2.trans ((bigSep_mono fun j _ => slot_owns c j _).trans (Entails.of_eq (bigSep_two _)))

theorem slots_join (c : Dev nD) :
    (iprop(slotA c 0 ∗ slotA c 1) : sProp 𝕄) ⊢ iprop(∃ f, ((c : Thread nD τ).loc cc0_scratch0) ↦{fullShare} f) := by
  unfold slotA
  iintro ⟨⟨%X0, H0⟩, ⟨%X1, H1⟩⟩
  let Y : Fin 2 → Row F := fun i => if i = 0 then X0 else X1
  let Z : (cc0_scratch0 : Ref sig .tc).ty.Contents (Elt F) := fun i => lift3 (Y (slotOf i)) (inSlot i)
  have h2 := owns_of_rects (Ix := Unit) (Name := ℕ) (U := UU) (Lvl := ℕ) (c : Thread nD τ) bM fullShare slotR slotR_stride slotR_disj slotR_cover Z
  rw [show (owns (c : Thread nD τ) bM fullShare Z : sProp 𝕄) = _ from owns_whole (c : Thread nD τ) cc0_scratch0 fullShare Z] at h2
  have h3 : iprop(slotO c 0 X0 ∗ slotO c 1 X1) ⊢ (bigSep Finset.univ fun t => owns (c : Thread nD τ) (bM.slice (slotR t) (slotR_stride t)) fullShare (fun j => Z ((slotR t).emb j)) : sProp 𝕄) := by
    rw [bigSep_two]
    have hz (i : Fin 2) : (fun j => Z ((slotR i).emb j)) = lift3 (Y i) := funext fun y => pick2 (fun k z => lift3 (Y k) z) (slot_emb i y) (inSlot_emb i y)
    rw [hz, hz]
    exact BIClass.sep_mono (owns_slot c 0 X0) (owns_slot c 1 X1)
  iexists Z
  iapply h2
  iapply h3
  isplitl [H0]; · iexact H0
  iexact H1

/-! ## The gather's state -/

variable (P : Dev nD → Dev nD → Row F) (c : Dev nD)

/-- What send `t` to the right starts from: the row block, and the right to write it further on. -/
def GR (t : ℕ) : sProp 𝕄 :=
  iprop(rowO c (rot c (9 - t)) (shR t) (fin P (rot c (9 - t))) ∗ rowsA (rot c (8 - t)) (rot c (9 - t)) (t + 1) 5)
def GL (t : ℕ) : sProp 𝕄 :=
  iprop(rowO c (rot c (1 + t)) (shL t) (fin P (rot c (1 + t))) ∗ rowsA (rot c t) (rot c (1 + t)) 5 (8 - t))

theorem to_GR {t : ℕ} (ht : t < 4) : pay P c (18 + t) false ⊢ GR P c (t + 1) := by
  rw [pay_rrcv P c ht]
  unfold payRrcv GR shR
  rw [if_neg (by omega), show 9 - (t + 1) = 8 - t by omega, show 8 - (t + 1) = 7 - t by omega]
theorem to_GL {t : ℕ} (ht : t < 3) : pay P c (25 + t) false ⊢ GL P c (t + 1) := by
  rw [pay_lrcv P c ht]
  unfold payLrcv GL shL
  rw [if_neg (by omega), show 1 + (t + 1) = 2 + t by omega, show 8 - (t + 1) = 7 - t by omega, show t + 1 = 1 + t by omega]

/-- The finished row block, shared between the two directions. -/
theorem to_gather : iprop(rowO c (rot c 1) fullShare (acc P 7 c) ∗ rowsA (rot c 1) (rot c 1) 0 7) ⊢ iprop(GR P c 0 ∗ GL P c 0) := by
  have hf : fin P (rot c 1) = acc P 7 c := by unfold fin; rw [rot_rot, rot_self c (by rfl)]
  have h9 : rot c (9 - 0) = rot c 1 := rot_mod c (by decide)
  have h8 : rot c (8 - 0) = c := rot_self c (by decide)
  have hsplit : rowsA (F := F) (rot c 1) (rot c 1) 0 7 ⊢ iprop(rowsA c (rot c 1) 1 5 ∗ rowsA c (rot c 1) 5 8) := by
    unfold rowsA
    rw [bigSep_eq_bigSepL_of_eq (S := Finset.Ico 0 7) [0, 1, 2, 3, 4, 5, 6] (by decide) (by decide),
      bigSep_eq_bigSepL_of_eq (S := Finset.Ico 1 5) [1, 2, 3, 4] (by decide) (by decide),
      bigSep_eq_bigSepL_of_eq (S := Finset.Ico 5 8) [5, 6, 7] (by decide) (by decide)]
    simp only [bigSepL, rot_rot]
    show iprop(_ ∗ _ ∗ _ ∗ _ ∗ _ ∗ _ ∗ _) ⊢ iprop((_ ∗ _ ∗ _ ∗ _) ∗ (_ ∗ _ ∗ _))
    iintro ⟨H0, H1, H2, H3, H4, H5, H6⟩
    isplitl [H0 H1 H2 H3]
    · isplitl [H0]; · iexact H0
      isplitl [H1]; · iexact H1
      isplitl [H2]; · iexact H2
      iexact H3
    · isplitl [H4]; · iexact H4
      isplitl [H5]; · iexact H5
      iexact H6
  have hh := (owns_halves (Ix := Unit) (Name := ℕ) (U := UU) (Lvl := ℕ) (c : Thread nD τ) (rowM (rot c 1)) (q := fullShare) (acc P 7 c))
  unfold GR GL
  rw [h9, h8, rot_zero, hf, show shR 0 = (fullShare : PosShare TreeShare).left from rfl, show shL 0 = (fullShare : PosShare TreeShare).right from rfl]
  iintro ⟨H, Hw⟩
  ihave ⟨Hw1, Hw2⟩ := hsplit $$ Hw
  unfold rowO
  ihave ⟨H1, H2⟩ := hh.1 $$ H
  isplitl [H1 Hw1]
  · isplitl [H1]; · iexact H1
    iexact Hw1
  · isplitl [H2]; · iexact H2
    iexact Hw2

/-- All row blocks back: the sends' and the last two receives'. -/
theorem all_rows : iprop(payRsnd P c 0 ∗ payLsnd P c 0 ∗ payRsnd P c 1 ∗ payLsnd P c 1 ∗ payRsnd P c 2 ∗ payLsnd P c 2 ∗ payRsnd P c 3 ∗ GR P c 4 ∗ GL P c 3)
    ⊢ (bigSep Finset.univ fun j => rowO c j fullShare (fin P j) : sProp 𝕄) := by
  rw [rows8 c]
  unfold payRsnd payLsnd GR GL
  have h9 : rot c (9 - 0) = rot c 1 := rot_mod c (by decide)
  have hh := (owns_halves (Ix := Unit) (Name := ℕ) (U := UU) (Lvl := ℕ) (c : Thread nD τ) (rowM (rot c 1)) (q := fullShare) (fin P (rot c 1)))
  rw [h9]
  simp only [show shR 0 = (fullShare : PosShare TreeShare).left from rfl, show shL 0 = (fullShare : PosShare TreeShare).right from rfl,
    show shR 1 = fullShare from rfl, show shR 2 = fullShare from rfl, show shR 3 = fullShare from rfl, show shR 4 = fullShare from rfl,
    show shL 1 = fullShare from rfl, show shL 2 = fullShare from rfl, show shL 3 = fullShare from rfl, Nat.reduceAdd, Nat.reduceSub]
  iintro ⟨R0, L0, R1, L1, R2, L2, R3, ⟨R4, -⟩, ⟨L3, -⟩⟩
  isplitl [R0 L0]
  · unfold rowO
    iapply hh.2
    isplitl [R0]; · iexact R0
    iexact L0
  isplitl [L1]; · iexact L1
  isplitl [L2]; · iexact L2
  isplitl [L3]; · iexact L3
  isplitl [R4]; · iexact R4
  isplitl [R3]; · iexact R3
  isplitl [R2]; · iexact R2
  iexact R1

end Cert.KernelIdeal.Mlp

end
-- ==== Proof.Ideal.Body.lean ====
/- The whole body on one device: the entry handshake, the reduce-scatter's loop, the gather both ways round the ring and the
   closing waits, from the start's resources to the gathered rows. -/
module

public import proofs.«01_k».proof.Proof.Ideal.Trip
public import proofs.«01_k».proof.Proof.Ideal.Gather

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Dev nD → Row F) (K : Dev nD × Fin 34 → ℕ) (c : Dev nD)

theorem GR_eq (t : ℕ) : GR P c t = iprop(rowO c (rot c (9 - t)) (shR t) (fin P (rot c (9 - t))) ∗ rowsA (rot c (8 - t)) (rot c (9 - t)) (t + 1) 5) := rfl
theorem GL_eq (t : ℕ) : GL P c t = iprop(rowO c (rot c (1 + t)) (shL t) (fin P (rot c (1 + t))) ∗ rowsA (rot c t) (rot c (1 + t)) 5 (8 - t)) := rfl

/-- A set listed. -/
abbrev fs (l : List ℕ) : Finset ℕ := l.toFinset

/-- The accounting at the start. -/
abbrev O0 : Finset ℕ := insert 34 (insert 33 (OS 7 28))
abbrev A0 : Finset ℕ := insert 33 (AS 0 7 28)
abbrev C0 : Finset ℕ := insert 33 (CS 0 0 7 28)

/-- The first row block computed and the neighbours met: the state before the first step. -/
theorem to_inv (a : Args F) : iprop(facts (part a) K ∗ Ctx c (OS 7 28) (SS 0) (AS 0 7 28) (CS 0 0 7 28) ∗ ins a c
      ∗ bigSep (Finset.Ico 1 8) (fun i => rowA c (rot c (8 - i))) ∗ rowO c (rot c 0) fullShare (part a c (rot c 0)) ∗ slotA (rot c 1) (par 0) ∗ slotA (rot c 1) (par 1))
    ⊢ Inv (part a) K c a 0 := by
  have h8 : rot c (8 - 0) = rot c 0 := rot_mod c (by decide)
  have hacc : acc (part a) 0 c = part a c (rot c 0) := by rw [← rot_mod c (a := 8) (b := 0) (by decide)]; rfl
  have hsl : bigSep (Finset.Ico 0 2) (fun i => slotA (F := F) (rot c 1) (par i)) = iprop(slotA (rot c 1) (par 0) ∗ slotA (rot c 1) (par 1)) :=
    bigSep_eq_bigSepL_of_eq (S := Finset.Ico 0 2) [0, 1] (by decide) (by decide) _
  have e0 : (rowsA (rot c 0) (rot c 0) 0 0 : sProp 𝕄) = iprop(emp) := by unfold rowsA; rw [Finset.Ico_self]; exact bigSep_empty
  have e5 : (bigSep (Finset.Ico 5 0) (fun i => slotA c (par i)) : sProp 𝕄) = iprop(emp) := by rw [Finset.Ico_eq_empty (by omega)]; exact bigSep_empty
  unfold Inv Mem
  rw [h8, hacc, hsl, e0, e5]
  iintro ⟨#HF, HC, Hin, Hrows, Hrow, Hs0, Hs1⟩
  isplitr [HC Hin Hrows Hrow Hs0 Hs1]; · iexact HF
  isplitl [HC]; · iexact HC
  isplitl [Hin]; · iexact Hin
  isplitl [Hrows]; · iexact Hrows
  isplitl [Hrow]; · iexact Hrow
  isplitr; · iempintro
  isplitl [Hs0 Hs1]
  · isplitl [Hs0]; · iexact Hs0
    iexact Hs1
  iempintro

theorem rows_first : (bigSep Finset.univ fun j => rowA c j : sProp 𝕄) ⊢ iprop(rowA c (rot c 0) ∗ bigSep (Finset.Ico 1 8) (fun i => rowA c (rot c (8 - i)))) := by
  rw [rows8 c, bigSep_eq_bigSepL_of_eq (S := Finset.Ico 1 8) [1, 2, 3, 4, 5, 6, 7] (by decide) (by decide), rot_mod c (a := 8) (b := 0) (by decide)]
  simp only [bigSepL, Nat.reduceSub]
  show iprop(_ ∗ _ ∗ _ ∗ _ ∗ _ ∗ _ ∗ _ ∗ _) ⊢ iprop(_ ∗ (_ ∗ _ ∗ _ ∗ _ ∗ _ ∗ _ ∗ _))
  iintro ⟨H1, H2, H3, H4, H5, H6, H7, H8⟩
  isplitl [H8]; · iexact H8
  isplitl [H7]; · iexact H7
  isplitl [H6]; · iexact H6
  isplitl [H5]; · iexact H5
  isplitl [H4]; · iexact H4
  isplitl [H3]; · iexact H3
  isplitl [H2]; · iexact H2
  iexact H1

set_option maxHeartbeats 1000000 in
theorem rs_part (a : Args F) (h0 h1 h2 h3 h4 h5) (v2 v13 v24 v35 : BitVec 32) :
    iprop(facts (part a) K ∗ Ctx c O0 (SS 0) A0 C0 ∗ ins a c ∗ (bigSep Finset.univ fun j => rowA c j) ∗ slotA c 0 ∗ slotA c 1)
      ⊢ wp frame (wpE (defs₀ (F := F)) 𝒱₀ (c : Thread nD τ) none) Set.univ
          (k0_part4 xM h0 gM h1 uM h2 dM h3 oM h4 bM h5 cc0_scratch1 cc0_scratch2 cc0_scratch3 cc0_scratch4 cc0_scratch5 cc0_scratch6 cc0_scratch7 c v2 v13 v24 v35)
          fun _ => Inv (part a) K c a 7 := by
  simp only [k0_part4_eq_skeleton]
  unfold k0_part4_skel
  simp only [semSignalWord, semWaitWord, Prog.lift, Prog.bind_op, Prog.bind_ret, Prog.pure_eq_ret, wp_bind]
  have hp34 : pay (part a) (rot c (off 34)) (tcell 34) (tduty 34) = iprop(slotA c 0 ∗ slotA c 1) := by
    show payBar (rot c 7) = _
    unfold payBar; rw [rot_rot, rot_self c (by decide)]; rfl
  iintro ⟨#HF, HC, Hin, Hrows, Hs0, Hs1⟩
  ihave ⟨Hrow, Hrows⟩ := (rows_first c) $$ Hrows
  iapply (compute c a (j := rot c 0) (off1_eq c) rfl) $$ [Hin Hrow]
  · isplitl [Hin]; · iexact Hin
    iexact Hrow
  iintro ⟨Hin, Hrow⟩
  iapply (signal_step (part a) K c 34 (O := O0) (O' := insert 33 (OS 7 28)) (S := SS 0) (A := A0) (C := C0)
    (by rw [dev1_eq c, sem_bar]; rfl) rfl ⟨by decide, by decide⟩ rfl (by decide +kernel) (Topo.routes_tc _ _)) $$ [HC Hs0 Hs1]
  · isplitr [HC Hs0 Hs1]; · iexact HF
    isplitl [HC]; · iexact HC
    rw [hp34]
    isplitl [Hs0]; · iexact Hs0
    iexact Hs1
  iintro HC
  iapply (signal_step (part a) K c 33 (O := insert 33 (OS 7 28)) (O' := OS 7 28) (S := SS 0) (A := A0) (C := C0)
    (by rw [dev2_eq c, sem_bar]; rfl) rfl ⟨by decide, by decide⟩ rfl (by decide +kernel) (Topo.routes_tc _ _)) $$ [HC]
  · isplitr [HC]; · iexact HF
    isplitl [HC]; · iexact HC
    rw [show pay (part a) (rot c (off 33)) (tcell 33) (tduty 33) = iprop(emp) from rfl]
    iempintro
  iintro HC
  iapply (swait (part a) K c 33 (O := OS 7 28) (S := SS 0) (A := A0) (A' := AS 0 7 28) (C := C0) (C' := CS 0 0 7 28) sem_bar rfl (by decide)
    (Finset.mem_insert_self _ _) (Finset.erase_insert (by decide +kernel)) rfl (by decide +kernel) (by decide +kernel)) $$ [HC]
  · isplitr [HC]; · iexact HF
    iexact HC
  rw [show got (part a) c 33 = payBar c from if_pos rfl]
  unfold payBar
  iintro ⟨HC, Hs0, Hs1⟩
  ihave HI := (to_inv K c a) $$ [HC Hin Hrows Hrow Hs0 Hs1]
  · isplitr [HC Hin Hrows Hrow Hs0 Hs1]; · iexact HF
    isplitl [HC]; · iexact HC
    isplitl [Hin]; · iexact Hin
    isplitl [Hrows]; · iexact Hrows
    isplitl [Hrow]; · iexact Hrow
    isplitl [Hs0]; · iexact Hs0
    iexact Hs1
  iapply (Scf.wp_for_bind frame _ Set.univ _ _ _ k0_t1_ok (⟨⟩ : Unit) _ (fun s _ => Inv (part a) K c a s) (fun k _ => trip K c a k h0 h1 h2 h3 h4 h5 v2 v13 v24 v35)) $$ HI
  iintro %_ HI
  simp only [wp_ret]
  imodintro
  iexact HI

/-- The state after the last step, its bookkeeping written out. -/
theorem from_inv (a : Args F) : Inv (part a) K c a 7 ⊢ iprop(facts (part a) K
    ∗ Ctx c (fs [18, 19, 20, 21, 25, 26, 27]) (fs [14, 15, 16, 17, 22, 23, 24]) (fs [14, 15, 16, 17, 18, 19, 20, 21, 22, 23, 24, 25, 26, 27]) (fs [18, 19, 20, 21, 25, 26, 27])
    ∗ ins a c ∗ GR (part a) c 0 ∗ GL (part a) c 0 ∗ slotA c 0 ∗ slotA c 1) := by
  have hsl : bigSep (Finset.Ico 5 7) (fun i => slotA (F := F) c (par i)) = iprop(slotA c (par 5) ∗ slotA c (par 6)) :=
    bigSep_eq_bigSepL_of_eq (S := Finset.Ico 5 7) [5, 6] (by decide) (by decide) _
  unfold Inv Mem
  rw [show OS (7 + 7) (28 + 7) = (fs [18, 19, 20, 21, 25, 26, 27]) by decide +kernel, show SS 7 = (fs [14, 15, 16, 17, 22, 23, 24]) by decide +kernel,
    show AS 7 (7 + 7) (28 + (7 - 2)) = (fs [14, 15, 16, 17, 18, 19, 20, 21, 22, 23, 24, 25, 26, 27]) by decide +kernel,
    show CS 7 7 (7 + 7) (28 + (7 - 2)) = (fs [18, 19, 20, 21, 25, 26, 27]) by decide +kernel, hsl, show par 5 = 1 from rfl, show par 6 = 0 from rfl,
    show rot c (8 - 7) = rot c 1 from rfl]
  iintro ⟨#HF, HC, Hin, -, Hrow, Hw, -, Hs1, Hs0⟩
  ihave ⟨HR, HL⟩ := (to_gather (part a) c) $$ [Hrow Hw]
  · isplitl [Hrow]; · iexact Hrow
    iexact Hw
  isplitr [HC Hin HR HL Hs0 Hs1]; · iexact HF
  isplitl [HC]; · iexact HC
  isplitl [Hin]; · iexact Hin
  isplitl [HR]; · iexact HR
  isplitl [HL]; · iexact HL
  isplitl [Hs0]; · iexact Hs0
  iexact Hs1

set_option maxHeartbeats 4000000 in
theorem run_body (a : Args F) (h0 h1 h2 h3 h4 h5) :
    iprop(facts (part a) K ∗ Ctx c O0 (SS 0) A0 C0 ∗ ins a c ∗ (bigSep Finset.univ fun j => rowA c j) ∗ slotA c 0 ∗ slotA c 1)
      ⊢ wp frame (wpE (defs₀ (F := F)) 𝒱₀ (c : Thread nD τ) none) Set.univ
          (cc0_body xM h0 gM h1 uM h2 dM h3 oM h4 bM h5 cc0_scratch1 cc0_scratch2 cc0_scratch3 cc0_scratch4 cc0_scratch5 cc0_scratch6 cc0_scratch7)
          fun _ => iprop(facts (part a) K ∗ Ctx c ∅ ∅ ∅ ∅ ∗ ins a c ∗ (bigSep Finset.univ fun j => rowO c j fullShare (fin (part a) j)) ∗ slotA c 0 ∗ slotA c 1) := by
  simp only [cc0_body_eq_skeleton]
  unfold cc0_body_skel
  simp only [k0_part11_eq_skeleton]
  unfold k0_part11_skel
  simp only [k0_part3_eq_skeleton, k0_part5_eq_skeleton, k0_part6_eq_skeleton, k0_part7_eq_skeleton, k0_part8_eq_skeleton, k0_part9_eq_skeleton, k0_part10_eq_skeleton]
  unfold k0_part3_skel k0_part5_skel k0_part6_skel k0_part7_skel k0_part8_skel k0_part9_skel k0_part10_skel
  simp only [Prog.lift, Prog.bind_op, Prog.bind_ret, Prog.pure_eq_ret, wp_deviceId, wp_bind]
  iintro H
  ihave H := (rs_part K c a h0 h1 h2 h3 h4 h5 _ _ _ _) $$ H
  iapply (wp_wand_r frame _ Set.univ)
  isplitl [H]; · iexact H
  iintro %_ HI
  ihave ⟨#HF, HC, Hin, HR, HL, Hs0, Hs1⟩ := (from_inv K c a) $$ HI
  ihave HR := (Entails.of_eq (GR_eq (part a) c 0)) $$ HR
  ihave HL := (Entails.of_eq (GL_eq (part a) c 0)) $$ HL
  iapply (send_r (part a) K c (t := 0) (by decide) (dev5_eq c) (off9_eq c (0 : Fin 4)) (off9_eq c (0 : Fin 4)) (sem_arr3 (s := 0) rfl (by decide)) (sem_arr4 (s := 0) rfl (by decide))
    (O := (fs [18, 19, 20, 21, 25, 26, 27])) (O' := (fs [19, 20, 21, 25, 26, 27])) (S := (fs [14, 15, 16, 17, 22, 23, 24])) (S' := (fs [15, 16, 17, 22, 23, 24])) (A := (fs [14, 15, 16, 17, 18, 19, 20, 21, 22, 23, 24, 25, 26, 27])) (C := (fs [18, 19, 20, 21, 25, 26, 27])) (C' := (fs [14, 18, 19, 20, 21, 25, 26, 27]))
    (by decide) (by decide) (by decide) (by decide) (by decide) (by decide)) $$ [HC HR]
  · isplitr [HC HR]; · iexact HF
    isplitl [HC]; · iexact HC
    iexact HR
  iintro HC
  iapply (send_l (part a) K c (t := 0) (by decide) (dev6_eq c) (off10_eq c (0 : Fin 3)) (off10_eq c (0 : Fin 3)) (sem_arr5 (s := 0) rfl (by decide)) (sem_arr6 (s := 0) rfl (by decide))
    (O := (fs [19, 20, 21, 25, 26, 27])) (O' := (fs [19, 20, 21, 26, 27])) (S := (fs [15, 16, 17, 22, 23, 24])) (S' := (fs [15, 16, 17, 23, 24])) (A := (fs [14, 15, 16, 17, 18, 19, 20, 21, 22, 23, 24, 25, 26, 27])) (C := (fs [14, 18, 19, 20, 21, 25, 26, 27])) (C' := (fs [14, 18, 19, 20, 21, 22, 25, 26, 27]))
    (by decide) (by decide) (by decide) (by decide) (by decide) (by decide)) $$ [HC HL]
  · isplitr [HC HL]; · iexact HF
    isplitl [HC]; · iexact HC
    iexact HL
  iintro HC
  iapply (dwait (part a) K c 18 (sem_arr4 (s := 0) rfl (by decide)) N_rows (by decide) (O := (fs [19, 20, 21, 26, 27])) (S := (fs [15, 16, 17, 23, 24]))
    (A := (fs [14, 15, 16, 17, 18, 19, 20, 21, 22, 23, 24, 25, 26, 27])) (A' := (fs [14, 15, 16, 17, 19, 20, 21, 22, 23, 24, 25, 26, 27])) (C := (fs [14, 18, 19, 20, 21, 22, 25, 26, 27])) (C' := (fs [14, 19, 20, 21, 22, 25, 26, 27]))
    (by decide) (by decide) (by decide) (by decide) (by decide)) $$ [HC]
  · isplitr [HC]; · iexact HF
    iexact HC
  iintro ⟨HC, HR⟩
  ihave HR := (to_GR (part a) c (t := 0) (by decide)) $$ HR
  ihave HR := (Entails.of_eq (GR_eq (part a) c (0 + 1))) $$ HR
  iapply (dwait (part a) K c 25 (sem_arr6 (s := 0) rfl (by decide)) N_rows (by decide) (O := (fs [19, 20, 21, 26, 27])) (S := (fs [15, 16, 17, 23, 24]))
    (A := (fs [14, 15, 16, 17, 19, 20, 21, 22, 23, 24, 25, 26, 27])) (A' := (fs [14, 15, 16, 17, 19, 20, 21, 22, 23, 24, 26, 27])) (C := (fs [14, 19, 20, 21, 22, 25, 26, 27])) (C' := (fs [14, 19, 20, 21, 22, 26, 27]))
    (by decide) (by decide) (by decide) (by decide) (by decide)) $$ [HC]
  · isplitr [HC]; · iexact HF
    iexact HC
  iintro ⟨HC, HL⟩
  ihave HL := (to_GL (part a) c (t := 0) (by decide)) $$ HL
  ihave HL := (Entails.of_eq (GL_eq (part a) c (0 + 1))) $$ HL
  iapply (send_r (part a) K c (t := 1) (by decide) (dev7_eq c) (off9_eq c (1 : Fin 4)) (off9_eq c (1 : Fin 4)) (sem_arr3 (s := 1) rfl (by decide)) (sem_arr4 (s := 1) rfl (by decide))
    (O := (fs [19, 20, 21, 26, 27])) (O' := (fs [20, 21, 26, 27])) (S := (fs [15, 16, 17, 23, 24])) (S' := (fs [16, 17, 23, 24])) (A := (fs [14, 15, 16, 17, 19, 20, 21, 22, 23, 24, 26, 27])) (C := (fs [14, 19, 20, 21, 22, 26, 27])) (C' := (fs [14, 15, 19, 20, 21, 22, 26, 27]))
    (by decide) (by decide) (by decide) (by decide) (by decide) (by decide)) $$ [HC HR]
  · isplitr [HC HR]; · iexact HF
    isplitl [HC]; · iexact HC
    iexact HR
  iintro HC
  iapply (send_l (part a) K c (t := 1) (by decide) (dev8_eq c) (off10_eq c (1 : Fin 3)) (off10_eq c (1 : Fin 3)) (sem_arr5 (s := 1) rfl (by decide)) (sem_arr6 (s := 1) rfl (by decide))
    (O := (fs [20, 21, 26, 27])) (O' := (fs [20, 21, 27])) (S := (fs [16, 17, 23, 24])) (S' := (fs [16, 17, 24])) (A := (fs [14, 15, 16, 17, 19, 20, 21, 22, 23, 24, 26, 27])) (C := (fs [14, 15, 19, 20, 21, 22, 26, 27])) (C' := (fs [14, 15, 19, 20, 21, 22, 23, 26, 27]))
    (by decide) (by decide) (by decide) (by decide) (by decide) (by decide)) $$ [HC HL]
  · isplitr [HC HL]; · iexact HF
    isplitl [HC]; · iexact HC
    iexact HL
  iintro HC
  iapply (dwait (part a) K c 19 (sem_arr4 (s := 1) rfl (by decide)) N_rows (by decide) (O := (fs [20, 21, 27])) (S := (fs [16, 17, 24]))
    (A := (fs [14, 15, 16, 17, 19, 20, 21, 22, 23, 24, 26, 27])) (A' := (fs [14, 15, 16, 17, 20, 21, 22, 23, 24, 26, 27])) (C := (fs [14, 15, 19, 20, 21, 22, 23, 26, 27])) (C' := (fs [14, 15, 20, 21, 22, 23, 26, 27]))
    (by decide) (by decide) (by decide) (by decide) (by decide)) $$ [HC]
  · isplitr [HC]; · iexact HF
    iexact HC
  iintro ⟨HC, HR⟩
  ihave HR := (to_GR (part a) c (t := 1) (by decide)) $$ HR
  ihave HR := (Entails.of_eq (GR_eq (part a) c (1 + 1))) $$ HR
  iapply (dwait (part a) K c 26 (sem_arr6 (s := 1) rfl (by decide)) N_rows (by decide) (O := (fs [20, 21, 27])) (S := (fs [16, 17, 24]))
    (A := (fs [14, 15, 16, 17, 20, 21, 22, 23, 24, 26, 27])) (A' := (fs [14, 15, 16, 17, 20, 21, 22, 23, 24, 27])) (C := (fs [14, 15, 20, 21, 22, 23, 26, 27])) (C' := (fs [14, 15, 20, 21, 22, 23, 27]))
    (by decide) (by decide) (by decide) (by decide) (by decide)) $$ [HC]
  · isplitr [HC]; · iexact HF
    iexact HC
  iintro ⟨HC, HL⟩
  ihave HL := (to_GL (part a) c (t := 1) (by decide)) $$ HL
  ihave HL := (Entails.of_eq (GL_eq (part a) c (1 + 1))) $$ HL
  iapply (send_r (part a) K c (t := 2) (by decide) (dev9_eq c) (off9_eq c (2 : Fin 4)) (off9_eq c (2 : Fin 4)) (sem_arr3 (s := 2) rfl (by decide)) (sem_arr4 (s := 2) rfl (by decide))
    (O := (fs [20, 21, 27])) (O' := (fs [21, 27])) (S := (fs [16, 17, 24])) (S' := (fs [17, 24])) (A := (fs [14, 15, 16, 17, 20, 21, 22, 23, 24, 27])) (C := (fs [14, 15, 20, 21, 22, 23, 27])) (C' := (fs [14, 15, 16, 20, 21, 22, 23, 27]))
    (by decide) (by decide) (by decide) (by decide) (by decide) (by decide)) $$ [HC HR]
  · isplitr [HC HR]; · iexact HF
    isplitl [HC]; · iexact HC
    iexact HR
  iintro HC
  iapply (send_l (part a) K c (t := 2) (by decide) (dev10_eq c) (off10_eq c (2 : Fin 3)) (off10_eq c (2 : Fin 3)) (sem_arr5 (s := 2) rfl (by decide)) (sem_arr6 (s := 2) rfl (by decide))
    (O := (fs [21, 27])) (O' := (fs [21])) (S := (fs [17, 24])) (S' := (fs [17])) (A := (fs [14, 15, 16, 17, 20, 21, 22, 23, 24, 27])) (C := (fs [14, 15, 16, 20, 21, 22, 23, 27])) (C' := (fs [14, 15, 16, 20, 21, 22, 23, 24, 27]))
    (by decide) (by decide) (by decide) (by decide) (by decide) (by decide)) $$ [HC HL]
  · isplitr [HC HL]; · iexact HF
    isplitl [HC]; · iexact HC
    iexact HL
  iintro HC
  iapply (dwait (part a) K c 20 (sem_arr4 (s := 2) rfl (by decide)) N_rows (by decide) (O := (fs [21])) (S := (fs [17]))
    (A := (fs [14, 15, 16, 17, 20, 21, 22, 23, 24, 27])) (A' := (fs [14, 15, 16, 17, 21, 22, 23, 24, 27])) (C := (fs [14, 15, 16, 20, 21, 22, 23, 24, 27])) (C' := (fs [14, 15, 16, 21, 22, 23, 24, 27]))
    (by decide) (by decide) (by decide) (by decide) (by decide)) $$ [HC]
  · isplitr [HC]; · iexact HF
    iexact HC
  iintro ⟨HC, HR⟩
  ihave HR := (to_GR (part a) c (t := 2) (by decide)) $$ HR
  ihave HR := (Entails.of_eq (GR_eq (part a) c (2 + 1))) $$ HR
  iapply (dwait (part a) K c 27 (sem_arr6 (s := 2) rfl (by decide)) N_rows (by decide) (O := (fs [21])) (S := (fs [17]))
    (A := (fs [14, 15, 16, 17, 21, 22, 23, 24, 27])) (A' := (fs [14, 15, 16, 17, 21, 22, 23, 24])) (C := (fs [14, 15, 16, 21, 22, 23, 24, 27])) (C' := (fs [14, 15, 16, 21, 22, 23, 24]))
    (by decide) (by decide) (by decide) (by decide) (by decide)) $$ [HC]
  · isplitr [HC]; · iexact HF
    iexact HC
  iintro ⟨HC, HL⟩
  ihave HL := (to_GL (part a) c (t := 2) (by decide)) $$ HL
  iapply (send_r (part a) K c (t := 3) (by decide) (dev11_eq c) (off9_eq c (3 : Fin 4)) (off9_eq c (3 : Fin 4)) (sem_arr3 (s := 3) rfl (by decide)) (sem_arr4 (s := 3) rfl (by decide))
    (O := (fs [21])) (O' := ∅) (S := (fs [17])) (S' := ∅) (A := (fs [14, 15, 16, 17, 21, 22, 23, 24])) (C := (fs [14, 15, 16, 21, 22, 23, 24])) (C' := (fs [14, 15, 16, 17, 21, 22, 23, 24]))
    (by decide) (by decide) (by decide) (by decide) (by decide) (by decide)) $$ [HC HR]
  · isplitr [HC HR]; · iexact HF
    isplitl [HC]; · iexact HC
    iexact HR
  iintro HC
  iapply (dwait (part a) K c 21 (sem_arr4 (s := 3) rfl (by decide)) N_rows (by decide) (O := ∅) (S := ∅)
    (A := (fs [14, 15, 16, 17, 21, 22, 23, 24])) (A' := (fs [14, 15, 16, 17, 22, 23, 24])) (C := (fs [14, 15, 16, 17, 21, 22, 23, 24])) (C' := (fs [14, 15, 16, 17, 22, 23, 24]))
    (by decide) (by decide) (by decide) (by decide) (by decide)) $$ [HC]
  · isplitr [HC]; · iexact HF
    iexact HC
  iintro ⟨HC, HR⟩
  ihave HR := (to_GR (part a) c (t := 3) (by decide)) $$ HR
  iapply (dwait (part a) K c 14 (sem_arr3 (s := 0) rfl (by decide)) N_rows (by decide) (O := ∅) (S := ∅)
    (A := (fs [14, 15, 16, 17, 22, 23, 24])) (A' := (fs [15, 16, 17, 22, 23, 24])) (C := (fs [14, 15, 16, 17, 22, 23, 24])) (C' := (fs [15, 16, 17, 22, 23, 24]))
    (by decide) (by decide) (by decide) (by decide) (by decide)) $$ [HC]
  · isplitr [HC]; · iexact HF
    iexact HC
  iintro ⟨HC, R0⟩
  ihave R0 := (Entails.of_eq (pay_rsnd (part a) c (t := 0) (by decide) false)) $$ R0
  iapply (dwait (part a) K c 22 (sem_arr5 (s := 0) rfl (by decide)) N_rows (by decide) (O := ∅) (S := ∅)
    (A := (fs [15, 16, 17, 22, 23, 24])) (A' := (fs [15, 16, 17, 23, 24])) (C := (fs [15, 16, 17, 22, 23, 24])) (C' := (fs [15, 16, 17, 23, 24]))
    (by decide) (by decide) (by decide) (by decide) (by decide)) $$ [HC]
  · isplitr [HC]; · iexact HF
    iexact HC
  iintro ⟨HC, L0⟩
  ihave L0 := (Entails.of_eq (pay_lsnd (part a) c (t := 0) (by decide) false)) $$ L0
  iapply (dwait (part a) K c 15 (sem_arr3 (s := 1) rfl (by decide)) N_rows (by decide) (O := ∅) (S := ∅)
    (A := (fs [15, 16, 17, 23, 24])) (A' := (fs [16, 17, 23, 24])) (C := (fs [15, 16, 17, 23, 24])) (C' := (fs [16, 17, 23, 24]))
    (by decide) (by decide) (by decide) (by decide) (by decide)) $$ [HC]
  · isplitr [HC]; · iexact HF
    iexact HC
  iintro ⟨HC, R1⟩
  ihave R1 := (Entails.of_eq (pay_rsnd (part a) c (t := 1) (by decide) false)) $$ R1
  iapply (dwait (part a) K c 23 (sem_arr5 (s := 1) rfl (by decide)) N_rows (by decide) (O := ∅) (S := ∅)
    (A := (fs [16, 17, 23, 24])) (A' := (fs [16, 17, 24])) (C := (fs [16, 17, 23, 24])) (C' := (fs [16, 17, 24]))
    (by decide) (by decide) (by decide) (by decide) (by decide)) $$ [HC]
  · isplitr [HC]; · iexact HF
    iexact HC
  iintro ⟨HC, L1⟩
  ihave L1 := (Entails.of_eq (pay_lsnd (part a) c (t := 1) (by decide) false)) $$ L1
  iapply (dwait (part a) K c 16 (sem_arr3 (s := 2) rfl (by decide)) N_rows (by decide) (O := ∅) (S := ∅)
    (A := (fs [16, 17, 24])) (A' := (fs [17, 24])) (C := (fs [16, 17, 24])) (C' := (fs [17, 24]))
    (by decide) (by decide) (by decide) (by decide) (by decide)) $$ [HC]
  · isplitr [HC]; · iexact HF
    iexact HC
  iintro ⟨HC, R2⟩
  ihave R2 := (Entails.of_eq (pay_rsnd (part a) c (t := 2) (by decide) false)) $$ R2
  iapply (dwait (part a) K c 24 (sem_arr5 (s := 2) rfl (by decide)) N_rows (by decide) (O := ∅) (S := ∅)
    (A := (fs [17, 24])) (A' := (fs [17])) (C := (fs [17, 24])) (C' := (fs [17]))
    (by decide) (by decide) (by decide) (by decide) (by decide)) $$ [HC]
  · isplitr [HC]; · iexact HF
    iexact HC
  iintro ⟨HC, L2⟩
  ihave L2 := (Entails.of_eq (pay_lsnd (part a) c (t := 2) (by decide) false)) $$ L2
  rw [wp_ret]
  imodintro
  iapply (dwait (part a) K c 17 (sem_arr3 (s := 3) rfl (by decide)) N_rows (by decide) (O := ∅) (S := ∅)
    (A := (fs [17])) (A' := ∅) (C := (fs [17])) (C' := ∅)
    (by decide) (by decide) (by decide) (by decide) (by decide)) $$ [HC]
  · isplitr [HC]; · iexact HF
    iexact HC
  iintro ⟨HC, R3⟩
  ihave R3 := (Entails.of_eq (pay_rsnd (part a) c (t := 3) (by decide) false)) $$ R3
  simp only [wp_ret]
  imodintro
  isplitr [HC Hin HR HL Hs0 Hs1 R0 R1 R2 R3 L0 L1 L2]; · iexact HF
  isplitl [HC]; · iexact HC
  isplitl [Hin]; · iexact Hin
  isplitl [HR HL R0 R1 R2 R3 L0 L1 L2]
  · iapply (all_rows (part a) c)
    isplitl [R0]; · iexact R0
    isplitl [L0]; · iexact L0
    isplitl [R1]; · iexact R1
    isplitl [L1]; · iexact L1
    isplitl [R2]; · iexact R2
    isplitl [L2]; · iexact L2
    isplitl [R3]; · iexact R3
    isplitl [HR]; · iexact HR
    iexact HL
  isplitl [Hs0]; · iexact Hs0
  iexact Hs1

/-- Every cell closed: its counter at zero is the core's again. -/
theorem close_all : iprop(facts P K ∗ pos c ∅) ⊢ (|={Set.univ}=> bigSep (Finset.range 34) fun k => semVal (cell c k) 0 : sProp 𝕄) := by
  have hk (k : ℕ) (h : k ∈ Finset.range 34) : k < 34 := Finset.mem_range.mp h
  refine BIBase.Entails.trans ?_ (Rounds.cells_close ER (Rd P) (Finset.range 34) (fun k => cell c k) (fun k => if h : k < 34 then K (c, ⟨k, h⟩) else 0)
    (fun _ _ => Set.mem_univ _) (fun _ _ h => h) (fun _ => 1) (fun k _ => duties_later P (cell c k)))
  have hI : facts P K ⊢ (bigSep (Finset.range 34) fun k => cellInv ER (Rd P) (if h : k < 34 then K (c, ⟨k, h⟩) else 0) (cell c k) : sProp 𝕄) := by
    refine bigSep_intro_persistent fun k hk' => ?_
    rw [dif_pos (hk k hk')]
    exact facts_inv P K c (hk k hk')
  rw [bigSep_sep']
  show iprop(facts P K ∗ pos c ∅) ⊢ iprop(_ ∗ _)
  iintro ⟨HF, Hp⟩
  isplitl [HF]
  · iapply hI; iexact HF
  · unfold pos
    simp only [Finset.notMem_empty, if_false]
    iexact Hp

end Cert.KernelIdeal.Mlp

end
-- ==== Proof.Ideal.Setup.lean ====
/- What a device's body starts from and how the launch deals it: the cells' invariants allocated for all devices at once,
   the duty tokens dealt round the ring to their payers, the credits for the waits. -/
module

public import proofs.«01_k».proof.Proof.Ideal.Body
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Dev nD → Row F)

/-! ## The start -/

/-- What device `c` alone holds: its positions, the tokens of what it owes and of its own sends. -/
def lin (c : Dev nD) : sProp 𝕄 :=
  iprop((bigSep (Finset.range 34) fun k => atPos ER (cell c k) 0 ∅ 0) ∗ bigSep O0 (tok c) ∗ bigSep (SS 0) (tok c))

def recs (K : Dev nD × Fin 34 → ℕ) : sProp 𝕄 :=
  iprop((bigSep Finset.univ fun p : Dev nD × Fin 34 => cellInv ER (Rd P) (K p) (cell p.1 p.2.val))
    ∗ (bigSep Finset.univ fun p : Dev nD × Fin 34 => reached ER (cell p.1 p.2.val) 0))

instance recs_persistent (K : Dev nD × Fin 34 → ℕ) : BI.Persistent (recs P K) := by unfold recs; infer_instance

def dealt (c : Dev nD) : sProp 𝕄 := iprop(∃ K, recs P K ∗ lin c)

def start (c : Dev nD) : sProp 𝕄 := iprop(dealt P c ∗ levAts L lv ∗ bigSep C0 (crd c))

theorem A0_eq : A0 = Finset.range 34 := by decide +kernel

theorem pos_start (c : Dev nD) : (bigSep (Finset.range 34) fun k => atPos ER (cell c k) 0 ∅ 0 : sProp 𝕄) ⊢ pos c A0 := by
  unfold pos
  rw [A0_eq]
  exact bigSep_mono fun k hk => by rw [if_pos hk]; exact BI.Entails.refl _

/-- The start is the facts and the accounting at the start, at some names. -/
theorem start_ctx (c : Dev nD) (W : Waits sig Unit) : iprop(start P c ∗ owes (c : Thread nD τ) (owed c O0) W)
    ⊢ iprop(∃ K, facts P K ∗ Ctx c O0 (SS 0) A0 C0) := by
  unfold start dealt recs lin facts Ctx
  iintro ⟨⟨⟨%K, ⟨HI, HR⟩, Hat, HtO, HtS⟩, HL, HC⟩, HO⟩
  ihave Hp := (pos_start (F := F) c) $$ Hat
  iexists K
  isplitl [HI HR HL]
  · isplitl [HI]; · iexact HI
    isplitl [HR]; · iexact HR
    iexact HL
  iexists W
  isplitl [HO]; · iexact HO
  isplitl [HtO]; · iexact HtO
  isplitl [HtS]; · iexact HtS
  isplitl [Hp]; · iexact Hp
  iexact HC

/-! ## The launch's cells and tokens -/

abbrev osem : Fin 33 → SemLoc sig := fun k => csem k.val

theorem ownSemFacts : Pipeline.OwnSemFacts cfg0.spec osem := by decide +kernel

theorem cellP_inj : Function.Injective (fun p : Dev nD × Fin 34 => cell p.1 p.2.val) := by
  rintro ⟨c, k⟩ ⟨c', k'⟩ h
  obtain ⟨rfl, h2⟩ := cell_inj k.isLt k'.isLt h
  rw [Fin.ext h2]
def ringCells : Finset (GSem nD τ sig) := Finset.univ.map ⟨_, cellP_inj⟩

def tokP (p : Dev nD × Fin 35) : GSem nD τ sig × ℕ × Bool := (cell p.1 (tcell p.2.val), 0, tduty p.2.val)
theorem tokP_inj : Function.Injective tokP := by
  rintro ⟨c, k⟩ ⟨c', k'⟩ h
  obtain ⟨rfl, h2⟩ := cell_inj (tcell_lt _) (tcell_lt _) (congrArg (fun x : GSem nD τ sig × ℕ × Bool => x.1) h)
  have h3 : tduty k.val = tduty k'.val := congrArg (fun x : GSem nD τ sig × ℕ × Bool => x.2.2) h
  have h4 : ∀ k k' : Fin 35, tcell k.val = tcell k'.val → tduty k.val = tduty k'.val → k = k' := by decide +kernel
  rw [h4 k k' h2 h3]
def ringToks : Finset (GSem nD τ sig × ℕ × Bool) := Finset.univ.map ⟨tokP, tokP_inj⟩

def u₀ : UU :=
  (initOf (Pipeline.cells cfgs cellOf_inj) (Pipeline.launchToks cfgs cellOf_inj), initOf ringCells ringToks)

/-- The tokens of the duties on device `c`'s cells. -/
def toks (c : Dev nD) : sProp 𝕄 := bigSep Finset.univ fun k : Fin 35 => dutyTok ER (cell c (tcell k.val)) 0 (tduty k.val)

/-- What the launch element deals device `c`. -/
def G (c : Dev nD) : sProp 𝕄 :=
  iprop((bigSep Finset.univ fun k : Fin 34 => roundState ER (Rd P) (cell c k.val) 0)
    ∗ (bigSep Finset.univ fun k : Fin 34 => iprop(atPos ER (cell c k.val) 0 ∅ 0 ∗ reached ER (cell c k.val) 0)) ∗ toks c)

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : Fin 34 => Φ (cell c k.val) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd P) ringCells ringToks) $$ HX with ⟨Hst, Hr, Hat, Htok⟩
  imodintro
  ihave Hst' := (Entails.of_eq (hX fun g => roundState ER (Rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem range_fin (n : ℕ) (Φ : ℕ → sProp 𝕄) : bigSep (Finset.range n) Φ = bigSep Finset.univ fun k : Fin n => Φ k.val := by
  rw [← Nat.Iio_eq_range, ← Fin.map_valEmbedding_univ, bigSep_map]; rfl

/-- The kernel's own semaphores and the runtime's barrier semaphore are the numbered cells. -/
theorem unscopedSems0_eq (c : Dev nD) : (unscopedSems0 c : sProp 𝕄) = semVal (cell c 33) 0 := by
  unfold unscopedSems0; rw [bigSep_eq_bigSepL_of_eq [csem 33] (by decide +kernel) (by decide +kernel)]; rfl
theorem sems_eq (c : Dev nD) : (bigSep (Finset.range 34) fun k => (semVal (cell c k) 0 : sProp 𝕄))
    = iprop(unscopedSems0 c ∗ Pipeline.ownSems0 (Ix := Unit) (Name := ℕ) (U := UU) (Lvl := ℕ) (Val := Elt F) (τ := τ) osem c) := by
  rw [Finset.range_add_one (n := 33), BI.bigSep_insert Finset.notMem_range_self, range_fin, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : Fin 34 => iprop(∃ κ : ℕ, cellInv ER (Rd P) κ (cell c k.val)))
          ∗ (bigSep Finset.univ fun k : Fin 34 => iprop(atPos ER (cell c k.val) 0 ∅ 0 ∗ reached ER (cell c k.val) 0)) ∗ toks c) := by
  unfold G
  iintro ⟨Hos, Hus, Hst, Hat, Htok⟩
  ihave Hv := (Entails.of_eq ((sems_eq (F := F) c).symm.trans (range_fin 34 _))) $$ [Hos Hus]
  · isplitl [Hus] <;> iassumption
  imod (show iprop((bigSep Finset.univ fun k : Fin 34 => semVal (cell c k.val) 0) ∗ bigSep Finset.univ fun k : Fin 34 => roundState ER (Rd P) (cell c k.val) 0)
      ⊢ (|={Set.univ}=> bigSep Finset.univ fun k : Fin 34 => iprop(∃ κ : ℕ, cellInv ER (Rd P) κ (cell c k.val)) : sProp 𝕄) from by
        rw [← bigSep_sep']
        exact (bigSep_mono fun k _ => (Rounds.body_intro ER (Rd P) (cell c k.val)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring -/

theorem off_le (k : ℕ) : off k ≤ 7 := by unfold off; (repeat' split) <;> omega

theorem around_bij : Function.Bijective (fun p : Dev nD × Fin 35 => ((rot p.1 (off p.2.val), p.2) : Dev nD × Fin 35)) := by
  refine (Finite.injective_iff_bijective).mp ?_
  rintro ⟨c, k⟩ ⟨c', k'⟩ h
  obtain ⟨h1, h2⟩ := Prod.mk.inj h
  simp only at h1 h2
  subst h2
  have h3 := congrArg (fun d => rot d (8 - off k.val)) h1
  simp only [rot_rot] at h3
  have := off_le k.val
  rw [rot_self c (by omega), rot_self c' (by omega)] at h3
  rw [h3]

theorem debts_eq : Finset.range 35 = O0 ∪ SS 0 := by decide +kernel
theorem debts_disj : Disjoint O0 (SS 0) := by decide +kernel

theorem toks_around : (bigSep Finset.univ fun c : Dev nD => (toks c : sProp 𝕄))
    ⊢ bigSep Finset.univ fun c : Dev nD => iprop(bigSep O0 (tok c) ∗ bigSep (SS 0) (tok c)) := by
  unfold toks
  rw [← bigSep_univ_prod (fun p : Dev nD × Fin 35 => (dutyTok ER (cell p.1 (tcell p.2.val)) 0 (tduty p.2.val) : sProp 𝕄)),
    bigSep_univ_equiv (Equiv.ofBijective _ around_bij), bigSep_univ_prod]
  refine bigSep_mono fun c _ => ?_
  have e := BI.bigSep_union (Φ := tok (F := F) c) debts_disj
  rw [← debts_eq, range_fin] at e
  exact Entails.of_eq e

theorem regroup :
    (bigSep Finset.univ fun c : Dev nD => iprop((bigSep Finset.univ fun k : Fin 34 => iprop(∃ κ : ℕ, cellInv ER (Rd P) κ (cell c k.val)))
          ∗ (bigSep Finset.univ fun k : Fin 34 => iprop(atPos ER (cell c k.val) 0 ∅ 0 ∗ reached ER (cell c k.val) 0)) ∗ toks c) : sProp 𝕄)
      ⊢ bigSep Finset.univ (dealt P) := by
  rw [bigSep_sep', bigSep_sep', ← bigSep_univ_prod (fun p : Dev nD × Fin 34 => iprop(∃ κ : ℕ, cellInv ER (Rd P) κ (cell p.1 p.2.val))),
    bigSep_congr (s := Finset.univ) (fun (c : Dev nD) _ => bigSep_sep' Finset.univ (fun k : Fin 34 => (atPos ER (cell c k.val) 0 ∅ 0 : sProp 𝕄)) (fun k => reached ER (cell c k.val) 0)),
    bigSep_sep', ← bigSep_univ_prod (fun p : Dev nD × Fin 34 => (reached ER (cell p.1 p.2.val) 0 : sProp 𝕄))]
  iintro ⟨HI, ⟨Hat, #HR⟩, Htok⟩
  ihave HK := (BI.bigSep_exists_pi Finset.univ (fun (p : Dev nD × Fin 34) (κ : ℕ) => (cellInv ER (Rd P) κ (cell p.1 p.2.val) : sProp 𝕄))) $$ HI
  icases HK with ⟨%K, #HI⟩
  ihave Htk := (toks_around (F := F)) $$ Htok
  iapply (bigSep_with_persistent (R := recs P K) (Φ := lin) fun c _ => show iprop(recs P K ∗ lin c) ⊢ dealt P c from by
    unfold dealt; iintro H; iexists K; iexact H)
  isplitr
  · unfold recs; isplitl; · iexact HI
    iexact HR
  · iapply ((Entails.of_eq (bigSep_sep' Finset.univ (fun c : Dev nD => bigSep Finset.univ fun k : Fin 34 => (atPos ER (cell c k.val) 0 ∅ 0 : sProp 𝕄))
        (fun c => iprop(bigSep O0 (tok c) ∗ bigSep (SS 0) (tok c)))).symm).trans
      (bigSep_mono fun c _ => show _ ⊢ lin c from Entails.of_eq (by unfold lin; rw [range_fin])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (dealt P) :=
  ((bigSep_mono fun c _ => core_alloc P c).trans (bigSep_fupd _ _)).trans (BI.fupd_mono (regroup P))

/-! ## The credits -/

theorem owed_at (d c : Dev nD) {k : ℕ} (h : k < 34) (O : Finset ℕ) :
    owed d O (cell c k) () = ∑ j ∈ O, if k = tcell j ∧ d = rot c (8 - off j) then amt j else 0 := by
  unfold owed
  rw [Finset.sum_apply, Finsupp.finset_sum_apply]
  refine Finset.sum_congr rfl fun j _ => ?_
  rw [tallyAt_apply]
  have := off_le j
  refine if_congr ⟨fun ⟨h1, _⟩ => ?_, fun ⟨h1, h2⟩ => ⟨?_, rfl⟩⟩ rfl rfl
  · obtain ⟨rfl, h3⟩ := cell_inj h (tcell_lt _) h1
    exact ⟨h3, by rw [rot_rot, rot_self d (by omega)]⟩
  · rw [h2, h1]; unfold oc; rw [rot_rot, rot_self c (by omega)]

theorem owed_all (c : Dev nD) {k : ℕ} (h : k ∈ C0) : ∑ d : Dev nD, owed d O0 (cell c k) () = expc k := by
  have hk : k < 34 := (show ∀ k ∈ C0, k < 34 by decide +kernel) k h
  rw [Finset.sum_congr rfl fun d _ => owed_at d c hk O0, Finset.sum_comm,
    Finset.sum_congr rfl fun j _ => show (∑ d : Dev nD, if k = tcell j ∧ d = rot c (8 - off j) then amt j else 0) = if k = tcell j then amt j else 0 from by
      by_cases hj : k = tcell j
      · simp only [hj, true_and, if_true]; rw [Finset.sum_ite_eq' Finset.univ, if_pos (Finset.mem_univ _)]
      · simp only [hj, false_and, if_false, Finset.sum_const_zero]]
  revert k
  decide +kernel

theorem launch_one (c : Dev nD) {k : ℕ} (h : k ∈ C0) :
    tallyOn (cell c k) (launchCredit (Pipeline.owing fun d => owed d O0) 0 (cell c k)) = (tallyAt (cell c k) () (expc k) : CellTallies nD τ sig Unit) := by
  unfold tallyAt; refine congrArg _ (Finsupp.ext fun u => ?_); cases u
  rw [Pipeline.launchCredit_owing, Finsupp.single_eq_same, owed_all c h]

theorem creds (c : Dev nD) : (Pipeline.launchCred (fun d => owed d O0) c : sProp 𝕄) ⊢ bigSep C0 (crd c) := by
  have hinj : Set.InjOn csem (C0 : Set ℕ) := fun a ha b hb e => by
    have hl : ∀ k ∈ C0, k < 34 := by decide +kernel
    have := congrArg kidx e
    rwa [kidx_csem (hl a ha), kidx_csem (hl b hb)] at this
  unfold Pipeline.launchCred
  refine BIBase.Entails.trans (bigSep_subset (Finset.subset_univ (C0.image csem))) ?_
  rw [bigSep_image_of_injOn hinj]
  refine bigSep_mono fun k hk => ?_
  unfold crd
  rw [launch_one c hk]; exact BI.Entails.refl _

end Cert.KernelIdeal.Mlp

end
-- ==== Proof.Ideal.Launch.lean ====
/- The launch: the body's obligation met on every device, and the run of the eight devices from any memory to the gathered
   rows. -/
module

public import proofs.«01_k».proof.Proof.Ideal.Setup
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.Value
public import Idealize.ShloMosaic.Lib.Pipeline.ValueKit.Geometry
public import Idealize.ShloMosaic.Lib.StableHlo.RunHlo

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (ρ : Dev nD → PrngReg)

def s₀ : MemSt nD τ sig (Elt F) := ⟨m, fun _ => 0, ρ⟩

/-- The arguments as each device's body finds them staged. -/
def aOf : Args F where
  x c := (win0_0.blk t0_0).view.read (Elt F) (m ((c : Thread nD τ).loc main_arg0))
  g c := (win0_1.blk t0_0).view.read (Elt F) (m ((c : Thread nD τ).loc main_arg1))
  u c := (win0_2.blk t0_0).view.read (Elt F) (m ((c : Thread nD τ).loc main_arg2))
  d c := (win0_3.blk t0_0).view.read (Elt F) (m ((c : Thread nD τ).loc main_arg3))

/-- What every device holds in the end. -/
def outOf : (cc0_stg4_0 : Ref sig .tc).ty.Contents (Elt F) := whole (fin (part (aOf m)))

def Φ₀ (c : Dev nD) : sProp 𝕄 :=
  iprop(start (part (aOf m)) c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ bigSep (Finset.range 34) fun k => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (aOf m).x c
    | ⟨1, _⟩ => (aOf m).g c
    | ⟨2, _⟩ => (aOf m).u c
    | ⟨3, _⟩ => (aOf m).d c
    | ⟨4, _⟩ => outOf m
  Φ t := match t with
    | ⟨0, _⟩ => Φ₀ m c
    | ⟨_ + 1, _⟩ => Φ₁ c
  q _ := fullShare
  owed t := match t with
    | ⟨0, _⟩ => owed c O0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : stg c b X ⊢ ((((c : Thread nD τ).loc b) ↦{fullShare} X) : sProp 𝕄) := by
  iintro ⟨%f, %hf, H⟩
  subst hf; iexact H
theorem stg_intro (c : Dev nD) (b : Ref sig .tc) (X : b.ty.Contents (Elt F)) : ((((c : Thread nD τ).loc b) ↦{fullShare} X) : sProp 𝕄) ⊢ stg c b X := by
  iintro H
  iexists X; isplitr; · (ipureintro; rfl)
  iexact H

abbrev bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

abbrev bodyPost (c : Dev nD) : sProp 𝕄 :=
  iprop(Φ₁ c ∗ (dats m ρ 0 c).owesAt () t0_0.succ
    ∗ stg c cc0_stg0_0 ((aOf m).x c) ∗ stg c cc0_stg1_0 ((aOf m).g c) ∗ stg c cc0_stg2_0 ((aOf m).u c) ∗ stg c cc0_stg3_0 ((aOf m).d c)
    ∗ stg c cc0_stg4_0 (outOf m))

theorem before_x (c : Dev nD) (d) : (dats m ρ 0 c).before (0 : Fin 5) t0_0 d = (aOf m).x c := by
  unfold Dat.before; rw [if_pos (fetch0_0 t0_0)]; rfl
theorem before_g (c : Dev nD) (d) : (dats m ρ 0 c).before (1 : Fin 5) t0_0 d = (aOf m).g c := by
  unfold Dat.before; rw [if_pos (fetch0_1 t0_0)]; rfl
theorem before_u (c : Dev nD) (d) : (dats m ρ 0 c).before (2 : Fin 5) t0_0 d = (aOf m).u c := by
  unfold Dat.before; rw [if_pos (fetch0_2 t0_0)]; rfl
theorem before_d (c : Dev nD) (d) : (dats m ρ 0 c).before (3 : Fin 5) t0_0 d = (aOf m).d c := by
  unfold Dat.before; rw [if_pos (fetch0_3 t0_0)]; rfl

theorem body_enter (c : Dev nD) : bodyPre m ρ c ⊢ iprop(∃ K, facts (part (aOf m)) K ∗ Ctx c O0 (SS 0) A0 C0 ∗ ins (aOf m) c
    ∗ (bigSep Finset.univ fun j => rowA c j) ∗ slotA c 0 ∗ slotA c 1) := by
  unfold bodyPre Φ₀ Dat.owesAt Pipeline.owesWithin ins
  iintro ⟨⟨Hst, ⟨%f, Hscr⟩⟩, ⟨%W, %hW, HO⟩, ⟨%d0, H0⟩, ⟨%d1, H1⟩, ⟨%d2, H2⟩, ⟨%d3, H3⟩, ⟨%d4, H4⟩⟩
  ihave H0 := (stg_elim c cc0_stg0_0 _) $$ H0
  ihave H1 := (stg_elim c cc0_stg1_0 _) $$ H1
  ihave H2 := (stg_elim c cc0_stg2_0 _) $$ H2
  ihave H3 := (stg_elim c cc0_stg3_0 _) $$ H3
  ihave H4 := (stg_elim c cc0_stg4_0 _) $$ H4
  ihave H0 := (Entails.of_eq (congrArg (fun X => ((((c : Thread nD τ).loc cc0_stg0_0) ↦{fullShare} X) : sProp 𝕄)) (before_x m ρ c d0))) $$ H0
  ihave H1 := (Entails.of_eq (congrArg (fun X => ((((c : Thread nD τ).loc cc0_stg1_0) ↦{fullShare} X) : sProp 𝕄)) (before_g m ρ c d1))) $$ H1
  ihave H2 := (Entails.of_eq (congrArg (fun X => ((((c : Thread nD τ).loc cc0_stg2_0) ↦{fullShare} X) : sProp 𝕄)) (before_u m ρ c d2))) $$ H2
  ihave H3 := (Entails.of_eq (congrArg (fun X => ((((c : Thread nD τ).loc cc0_stg3_0) ↦{fullShare} X) : sProp 𝕄)) (before_d m ρ c d3))) $$ H3
  ihave Hrows := (out_split c _) $$ H4
  ihave Hsl := (slots_split c f) $$ Hscr
  icases Hsl with ⟨Hs0, Hs1⟩
  ihave HO := (show owes (c : Thread nD τ) ((dats m ρ 0 c).owed t0_0.castSucc) W ⊢ (owes (c : Thread nD τ) (owed c O0) W : sProp 𝕄) from Entails.of_eq rfl) $$ HO
  ihave HK := (start_ctx (part (aOf m)) c W) $$ [Hst HO]
  · isplitl [Hst]; · iexact Hst
    iexact HO
  icases HK with ⟨%K, HF, HC⟩
  iexists K
  isplitl [HF]; · iexact HF
  isplitl [HC]; · iexact HC
  isplitl [H0 H1 H2 H3]
  · isplitl [H0]; · iexact H0
    isplitl [H1]; · iexact H1
    isplitl [H2]; · iexact H2
    iexact H3
  isplitl [Hrows]; · iexact Hrows
  isplitl [Hs0]; · iexact Hs0
  iexact Hs1

theorem body_exit (K : Dev nD × Fin 34 → ℕ) (c : Dev nD) : iprop(facts (part (aOf m)) K ∗ Ctx c ∅ ∅ ∅ ∅ ∗ ins (aOf m) c
    ∗ (bigSep Finset.univ fun j => rowO c j fullShare (fin (part (aOf m)) j)) ∗ slotA c 0 ∗ slotA c 1)
    ⊢ (|={Set.univ}=> bodyPost m ρ c : sProp 𝕄) := by
  unfold bodyPost Φ₁ Dat.owesAt Pipeline.owesWithin Ctx ins
  iintro ⟨HF, ⟨%W, HO, -, -, Hpos, -⟩, ⟨H0, H1, H2, H3⟩, Hrows, Hs0, Hs1⟩
  imod (close_all (part (aOf m)) K c) $$ [HF Hpos] with Hz
  · isplitl [HF]; · iexact HF
    iexact Hpos
  imodintro
  ihave H4 := (out_join c (fin (part (aOf m)))) $$ Hrows
  ihave Hscr := (slots_join (F := F) c) $$ [Hs0 Hs1]
  · isplitl [Hs0]; · iexact Hs0
    iexact Hs1
  isplitl [Hscr Hz]
  · isplitl [Hscr]; · iexact Hscr
    iexact Hz
  isplitl [HO]
  · iexists W
    isplitr; · (ipureintro; exact fun _ _ => Or.inl trivial)
    iapply (show (owes (c : Thread nD τ) (owed c ∅) W : sProp 𝕄) ⊢ owes (c : Thread nD τ) ((dats m ρ 0 c).owed t0_0.succ) W from
      Entails.of_eq (by rw [owed_empty]; rfl))
    iexact HO
  isplitl [H0]; · (iapply (stg_intro c cc0_stg0_0 _); iexact H0)
  isplitl [H1]; · (iapply (stg_intro c cc0_stg1_0 _); iexact H1)
  isplitl [H2]; · (iapply (stg_intro c cc0_stg2_0 _); iexact H2)
  isplitl [H3]; · (iapply (stg_intro c cc0_stg3_0 _); iexact H3)
  iapply (stg_intro c cc0_stg4_0 _); iexact H4

theorem body_run (c : Dev nD) (h0 h1 h2 h3 h4 h5) : bodyPre m ρ c ⊢ wp frame (wpE (defs₀ (F := F)) 𝒱₀ (c : Thread nD τ) none) Set.univ
    (cc0_body xM h0 gM h1 uM h2 dM h3 oM h4 bM h5 cc0_scratch1 cc0_scratch2 cc0_scratch3 cc0_scratch4 cc0_scratch5 cc0_scratch6 cc0_scratch7)
    (fun _ => bodyPost m ρ c) := by
  iintro H
  ihave H := (body_enter m ρ c) $$ H
  icases H with ⟨%K, H⟩
  ihave H := (run_body K c (aOf m) h0 h1 h2 h3 h4 h5) $$ H
  iapply (wp_fupd frame _ Set.univ)
  iapply (wp_wand_r frame _ Set.univ)
  isplitl [H]; · iexact H
  iintro %_ H
  iapply (body_exit m ρ K c); iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c _ _ _ _ _ _

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d O0) c ∗ prngReg c (ρ c) ∗ dealt (part (aOf m)) c)
      ⊢ |={Set.univ}=> iprop(start (part (aOf m)) c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi0_intro (c : Dev nD) :
    iprop(start (part (aOf m)) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  ihave Hz := (Entails.of_eq (sems_eq (F := F) c)) $$ Hz
  icases Hz with ⟨Hu, Ho⟩
  isplitl [Hu]; · iexact Hu
  isplitl [Ho]; · iexact Ho
  iexact Hr

theorem kidx_stage : ∀ (w : Fin 5) (s : Fin (spec0 w).nbuf), kidx (.dma ((spec0 w).sem s)) = 0 := by decide +kernel

set_option maxRecDepth 4000 in
theorem waits (c : Dev nD) : (levAts L lv : sProp 𝕄) ⊢ Pipeline.cellsWaits cfgs (dats m ρ) () 0 c :=
  Pipeline.cellsWaits_intro cfgs (dats m ρ) () 0 c fun w s t => by
    have hl : ∀ k ∈ O0, lev 0 < lev (tcell k) := by decide +kernel
    have h0 : kidx (.dma ((cfg0.win w).sem s)) = 0 := kidx_stage w s
    rcases t with ⟨_ | _, ht⟩
    · exact mayWait c (.dma ((cfg0.win w).sem s)) O0 (by rw [h0]; exact hl)
    · have h := mayWait (F := F) c (.dma ((cfg0.win w).sem s)) ∅ (fun k hk => absurd hk (Finset.notMem_empty k))
      rw [owed_empty] at h; exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d O0) (howed₀ := fun _ => rfl) (howedN := fun _ => rfl)
    (L := L) (lv := lv) (hL := L_of_ne) (hwaits := waits m ρ)
    (G := G (part (aOf m))) (G' := dealt (part (aOf m))) (u₀ := u₀)
    (hu₀ := by
      unfold u₀
      iintro Hu
      ihave H := (ownU_pair _ _) $$ Hu
      icases H with ⟨HP, HX⟩
      imod (fund_ring (part (aOf m))) $$ HX with HG
      imodintro
      isplitl [HP] <;> iassumption)
    (hglob := glob (part (aOf m)))
    (hA := fun _ _ => rfl) (hpf := fun _ k => k.elim0)
    (X := start (part (aOf m))) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 5) = m ((c : Thread nD τ).loc main_arg0) := (dats m ρ 0 c).arrAt_in (0 : Fin 5) rfl _
theorem finalA_g (c : Dev nD) : finalA m ρ c (1 : Fin 5) = m ((c : Thread nD τ).loc main_arg1) := (dats m ρ 0 c).arrAt_in (1 : Fin 5) rfl _
theorem finalA_u (c : Dev nD) : finalA m ρ c (2 : Fin 5) = m ((c : Thread nD τ).loc main_arg2) := (dats m ρ 0 c).arrAt_in (2 : Fin 5) rfl _
theorem finalA_d (c : Dev nD) : finalA m ρ c (3 : Fin 5) = m ((c : Thread nD τ).loc main_arg3) := (dats m ρ 0 c).arrAt_in (3 : Fin 5) rfl _
theorem finalA_o (c : Dev nD) : finalA m ρ c (4 : Fin 5) = outOf m :=
  (dats m ρ 0 c).arrAt_eq_of_after_last (4 : Fin 5) t0_0 (by decide +kernel) (outOf m) (fun j => rfl)

/-- What the run leaves: the result everywhere, the arguments as they were, the counters at zero. -/
theorem run_all : θ_run defs (onTc (τ := τ) (main (F := F))) (s₀ m ρ) (fun r =>
    (∀ c : Dev nD, r.2.mem ((c : Thread nD τ).loc main_v1) = outOf m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine θ_run_mono (run_main m ρ) fun r h => ⟨fun c => ⟨(h.1 c (4 : Fin 5)).trans (finalA_o m ρ c), (h.1 c (0 : Fin 5)).trans (finalA_x m ρ c),
    (h.1 c (1 : Fin 5)).trans (finalA_g m ρ c), (h.1 c (2 : Fin 5)).trans (finalA_u m ρ c), (h.1 c (3 : Fin 5)).trans (finalA_d m ρ c)⟩, h.2⟩

end Cert.KernelIdeal.Mlp

end
-- ==== Proof.Ideal.Value.lean ====
/- The value: in exact arithmetic the gathered rows are the reference's result. The eight devices' columns of the hidden
   layer are the reference's columns in eight blocks, so the sum over all of them is the sum, over the devices, of each
   device's own; the ring adds exactly these eight, in some order. Sums in the extended reals may be reordered freely, so
   nothing is asked of the arguments. -/
module

public import proofs.«01_k».proof.Proof.Ideal.Launch
public import proofs.«01_k».proof.Proof.Gen.ReferenceIdeal.Run
public import proofs.«01_k».proof.Defs
public import Idealize.ShloMosaic.Lib.MatmulPlain
public import Idealize.ShloMosaic.Lib.StackMember
public import Idealize.ShloMosaic.Lib.IdealHost

@[expose] public section

noncomputable section

namespace Cert.KernelIdeal.Mlp

open Cert.KernelIdeal Cert.KernelIdeal.Gen
open Idealize.ShloMosaic Idealize.ShloMosaic.TcCoe Idealize.ShloMosaic.ValueIdx Idealize.ShloMosaic.Pipeline
open scoped BigOperators

/-! ## The gate -/

theorem exp_nonneg (u : EReal) : 0 ≤ Ideal.exp u := by
  induction u with
  | bot => exact le_refl _
  | top => exact le_top
  | coe r => exact EReal.coe_nonneg.mpr (Real.exp_pos r).le

theorem one_add_exp_ne (u : EReal) : 1 + Ideal.exp u ≠ 0 := by
  have h : (1 : EReal) ≤ 1 + Ideal.exp u := le_add_of_nonneg_right (exp_nonneg u)
  intro h0
  rw [h0] at h
  exact absurd h (by norm_num)

/-- A number times its logistic is the number divided by one plus the exponential of its negative. -/
theorem silu_eq (u : EReal) : u * Ideal.logistic u = Ideal.div u (1 + Ideal.exp (-u)) := by
  unfold Ideal.logistic Ideal.div
  rw [if_neg (one_add_exp_ne _), if_neg (one_add_exp_ne _), one_mul]

/-! ## Sums -/

/-- A sum over `m * n` positions, block by block. -/
theorem sum_blocks {m n N : ℕ} (h : m * n = N) (f : Fin N → EReal) (e : Fin m → Fin n → Fin N)
    (he : ∀ c k, (e c k).val = c.val * n + k.val) : ∑ k, f k = ∑ c : Fin m, ∑ k : Fin n, f (e c k) := by
  subst h
  rw [← Equiv.sum_comp finProdFinEquiv, Fintype.sum_prod_type]
  refine Finset.sum_congr rfl fun c _ => Finset.sum_congr rfl fun k _ => congrArg f (Fin.ext ?_)
  rw [he c k]
  show k.val + n * c.val = _
  rw [Nat.mul_comm, Nat.add_comm]

/-- The eight devices counted downwards around the ring from any of them. -/
theorem sum_ring (j : Dev nD) (f : Dev nD → EReal) :
    ∑ d, f d = f (rot j 7) + (f (rot j 6) + (f (rot j 5) + (f (rot j 4) + (f (rot j 3) + (f (rot j 2) + (f (rot j 1) + f j)))))) := by
  have h0 : rot j 0 = j := by revert j; decide
  have h : ∑ d, f d = ∑ k : Fin 8, f (rot j k.val) :=
    (Fintype.sum_bijective (fun k : Fin 8 => rot j k.val) (by clear h0 f; revert j; decide) _ _ fun _ => rfl).symm
  rw [h, Fin.sum_univ_eight]
  show f (rot j 0) + f (rot j 1) + f (rot j 2) + f (rot j 3) + f (rot j 4) + f (rot j 5) + f (rot j 6) + f (rot j 7) = _
  rw [h0]
  abel

theorem addV_apply (a b : Row Ideal) (y : S192x1536.Idx) : addV a b y = (a y + b y : EReal) := by
  show (a (Shape.reshapeEquiv _ y) + b ((Shape.reshapeEquiv _).symm (Shape.reshapeEquiv _ y)) : EReal) = _
  rw [Shape.reshapeEquiv_self, Equiv.symm_apply_apply]

theorem fin_apply (P : Dev nD → Dev nD → Row Ideal) (j : Dev nD) (y : S192x1536.Idx) : fin P j y = (∑ d, P d j y : EReal) := by
  rw [sum_ring j fun d => (P d j y : EReal)]
  have hm (k : ℕ) : rot j k = rot j (k % 8) := Fin.ext (by rw [rot_val, rot_val]; omega)
  have h0 : rot j 0 = j := by clear hm; revert j; decide
  unfold fin
  simp only [acc, addV_apply, rot_rot]
  norm_num only
  rw [hm 8, hm 14, hm 16, hm 21, hm 24, hm 28, hm 32, hm 35, hm 40, hm 42, hm 48, hm 49, hm 56, hm 64]
  norm_num only
  rw [h0]

/-! ## One device's contribution -/

theorem part_apply (X : Row Ideal) (g u : S1536x3072.Idx → EReal) (d : S3072x1536.Idx → EReal) (r : Fin 192) (n : Fin 1536) :
    k0_pay1 (F := Ideal) X g u d (ix2 r n)
      = (∑ k : Fin 3072, ((∑ q : Fin 1536, (X (ix2 r q) : EReal) * g (ix2 q k))
          * Ideal.div (∑ q : Fin 1536, (X (ix2 r q) : EReal) * u (ix2 q k)) (1 + Ideal.exp (-(∑ q : Fin 1536, (X (ix2 r q) : EReal) * u (ix2 q k)))))
          * d (ix2 k n) : EReal) := by
  unfold k0_pay1
  simp only [shapeCast_self]
  refine (Ideal.matmul_plain_apply (φ₁ := .bf16) (φ₂ := .bf16) none _ d (constant _ .f32 0x00000000#32) r n).trans ?_
  show Ideal.ofBits .f32 0x00000000#32 + _ = _
  rw [Ideal.ofBits_zero_f32, zero_add]
  refine Finset.sum_congr rfl fun k _ => congrArg (· * d (ix2 k n)) ?_
  have hp (w : S1536x3072.Idx → EReal) : matmul (F := Ideal) (φ₁ := .bf16) (φ₂ := .bf16) dot_S192x1536_S1536x3072_S192x3072_1_0_0_1_n_n none X w (constant S192x3072 .f32 0x00000000#32) (ix2 r k)
      = (∑ q : Fin 1536, (X (ix2 r q) : EReal) * w (ix2 q k) : EReal) := by
    refine (Ideal.matmul_plain_apply (φ₁ := .bf16) (φ₂ := .bf16) none X w (constant _ .f32 0x00000000#32) r k).trans ?_
    show Ideal.ofBits .f32 0x00000000#32 + _ = _
    rw [Ideal.ofBits_zero_f32, zero_add]
  rw [← hp g, ← hp u, ← silu_eq]
  rfl

/-! ## The staged arguments are the arguments -/

variable (m : (l : Loc nD τ sig) → Buf (Elt Ideal) l)

theorem aOf_x (c : Dev nD) : (aOf m).x c = m ((c : Thread nD τ).loc main_arg0) :=
  funext fun i => congrArg (m ((c : Thread nD τ).loc main_arg0)) (funext fun a => Fin.ext (by
    show ((win0_0.rect t0_0).emb i a : ℕ) = _
    exact win0_0.rect_emb_val_of_index_zero t0_0 a (by revert a; decide) i))
theorem aOf_g (c : Dev nD) : (aOf m).g c = m ((c : Thread nD τ).loc main_arg1) :=
  funext fun i => congrArg (m ((c : Thread nD τ).loc main_arg1)) (funext fun a => Fin.ext (by
    show ((win0_1.rect t0_0).emb i a : ℕ) = _
    exact win0_1.rect_emb_val_of_index_zero t0_0 a (by revert a; decide) i))
theorem aOf_u (c : Dev nD) : (aOf m).u c = m ((c : Thread nD τ).loc main_arg2) :=
  funext fun i => congrArg (m ((c : Thread nD τ).loc main_arg2)) (funext fun a => Fin.ext (by
    show ((win0_2.rect t0_0).emb i a : ℕ) = _
    exact win0_2.rect_emb_val_of_index_zero t0_0 a (by revert a; decide) i))
theorem aOf_d (c : Dev nD) : (aOf m).d c = m ((c : Thread nD τ).loc main_arg3) :=
  funext fun i => congrArg (m ((c : Thread nD τ).loc main_arg3)) (funext fun a => Fin.ext (by
    show ((win0_3.rect t0_0).emb i a : ℕ) = _
    exact win0_3.rect_emb_val_of_index_zero t0_0 a (by revert a; decide) i))

/-- A row block of a device's `x`, read at the block and the row within it an index of the whole falls in. -/
theorem xrow_apply (a : Args Ideal) (c : Dev nD) (i : S1536x1536.Idx) (q : Fin 1536) :
    xrow a c (blkOf i) (ix2 (inBlk i 0) q) = a.x c (ix2 (i 0) q) := by
  show a.x c ((rowR (blkOf i)).emb (ix2 (inBlk i 0) q)) = _
  refine congrArg (a.x c) (funext fun b => ?_)
  fin_cases b <;> apply Fin.ext
  · show 192 * ((i 0).val / 192) + 1 * ((i 0).val % 192) = (i 0).val; omega
  · show 0 + 1 * q.val = q.val; omega

/-! ## The reference's result -/

/-- The reference's result, entry by entry. -/
theorem ref_apply (x : S1536x1536.Idx → EReal) (g u : (⟨2, ![1536, 24576]⟩ : Shape).Idx → EReal) (d : (⟨2, ![24576, 1536]⟩ : Shape).Idx → EReal)
    (r n : Fin 1536) :
    (truncf (F := Ideal) .bf16 (Host.dotGeneral (φ₁ := .bf16) (φ₂ := .bf16) Cert.ReferenceIdeal.dot_S1536x24576_S24576x1536_S1536x1536_1_0_0_1_n_n none (truncf .bf16 (mulf (Host.dotGeneral (φ₁ := .bf16) (φ₂ := .bf16) Cert.ReferenceIdeal.dot_S1536x1536_S1536x24576_S1536x24576_1_0_0_1_n_n none x g) (Host.divf (Host.dotGeneral (φ₁ := .bf16) (φ₂ := .bf16) Cert.ReferenceIdeal.dot_S1536x1536_S1536x24576_S1536x24576_1_0_0_1_n_n none x u) (addf (broadcastInDim Cert.ReferenceIdeal.S1536x24576 ![] Cert.ReferenceIdeal.Facts₀.bcast_S_S1536x24576 (constant Cert.ReferenceIdeal.S_ .f32 0x3F800000#32)) (Host.exp (Host.negf (Host.dotGeneral (φ₁ := .bf16) (φ₂ := .bf16) Cert.ReferenceIdeal.dot_S1536x1536_S1536x24576_S1536x24576_1_0_0_1_n_n none x u)))))) Cert.ReferenceIdeal.Facts₀.bitsLt_bf16_f32) (d : FVec Ideal _ .bf16)) Cert.ReferenceIdeal.Facts₀.bitsLt_bf16_f32 : FVec Ideal S1536x1536 .bf16) (ix2 r n)
      = (∑ k : Fin 24576, ((∑ q : Fin 1536, x (ix2 r q) * g (ix2 q k))
          * Ideal.div (∑ q : Fin 1536, x (ix2 r q) * u (ix2 q k)) (1 + Ideal.exp (-(∑ q : Fin 1536, x (ix2 r q) * u (ix2 q k)))))
          * d (ix2 k n) : EReal) := by
  have h2 (A : FVec Ideal Cert.ReferenceIdeal.S1536x24576 .bf16) :
      (truncf (F := Ideal) .bf16 (Host.dotGeneral (φ₁ := .bf16) (φ₂ := .bf16) Cert.ReferenceIdeal.dot_S1536x24576_S24576x1536_S1536x1536_1_0_0_1_n_n none A d) Cert.ReferenceIdeal.Facts₀.bitsLt_bf16_f32 : FVec Ideal S1536x1536 .bf16) (ix2 r n)
      = (∑ k : Fin 24576, (A (ix2 r k) : EReal) * d (ix2 k n) : EReal) :=
    StackMember.dotGeneral_plain_apply (φ₁ := .bf16) (φ₂ := .bf16) none A d r n
  refine (h2 _).trans ?_
  refine Finset.sum_congr rfl fun k _ => congrArg (· * d (ix2 k n)) ?_
  have hp (w : (⟨2, ![1536, 24576]⟩ : Shape).Idx → EReal) :
      Host.dotGeneral (F := Ideal) (φ₁ := .bf16) (φ₂ := .bf16) Cert.ReferenceIdeal.dot_S1536x1536_S1536x24576_S1536x24576_1_0_0_1_n_n none x w (ix2 r k)
      = (∑ q : Fin 1536, x (ix2 r q) * w (ix2 q k) : EReal) :=
    StackMember.dotGeneral_plain_apply (φ₁ := .bf16) (φ₂ := .bf16) none x w r k
  rw [← hp g, ← hp u, ← Ideal.ofBits_one_f32]
  rfl

/-! ## Both sides -/

variable (x : S1536x1536.Idx → EReal) (g u : (⟨2, ![1536, 24576]⟩ : Shape).Idx → EReal) (d : (⟨2, ![24576, 1536]⟩ : Shape).Idx → EReal)

/-- Where position `k` of device `c`'s hidden columns is among all of them. -/
def colAt (c : Fin 8) (k : Fin 3072) : Fin 24576 := ⟨c.val * 3072 + k.val, by omega⟩

/-- What the devices gather, entry by entry, when they hold the blocks of `g`, `u` and `d`. -/
theorem out_apply
    (hx : ∀ c : Dev nD, m ((c : Thread nD τ).loc main_arg0) = x)
    (hg : ∀ c : Dev nD, m ((c : Thread nD τ).loc main_arg1) = Layout.block ⟨2, ![1536, 3072]⟩ ⟨2, ![1536, 24576]⟩ 1 8 c g)
    (hu : ∀ c : Dev nD, m ((c : Thread nD τ).loc main_arg2) = Layout.block ⟨2, ![1536, 3072]⟩ ⟨2, ![1536, 24576]⟩ 1 8 c u)
    (hd : ∀ c : Dev nD, m ((c : Thread nD τ).loc main_arg3) = Layout.block ⟨2, ![3072, 1536]⟩ ⟨2, ![24576, 1536]⟩ 0 8 c d)
    (r n : Fin 1536) :
    outOf m (ix2 r n)
      = (∑ k : Fin 24576, ((∑ q : Fin 1536, x (ix2 r q) * g (ix2 q k))
          * Ideal.div (∑ q : Fin 1536, x (ix2 r q) * u (ix2 q k)) (1 + Ideal.exp (-(∑ q : Fin 1536, x (ix2 r q) * u (ix2 q k)))))
          * d (ix2 k n) : EReal) := by
  show fin (part (aOf m)) (blkOf (ix2 r n)) (inBlk (ix2 r n)) = _
  rw [fin_apply, sum_blocks (m := 8) (n := 3072) rfl _ colAt fun _ _ => rfl]
  refine Finset.sum_congr rfl fun c _ => ?_
  have hi : inBlk (ix2 r n) = ix2 (inBlk (ix2 r n) 0) n := by
    funext a; fin_cases a <;> rfl
  rw [hi]
  refine (part_apply _ _ _ _ _ n).trans ?_
  have hX (q : Fin 1536) : xrow (aOf m) c (blkOf (ix2 r n)) (ix2 (inBlk (ix2 r n) 0) q) = x (ix2 r q) := by
    rw [xrow_apply, aOf_x, hx]
  have hG (q : Fin 1536) (k : Fin 3072) : (aOf m).g c (ix2 q k) = g (ix2 q (colAt c k)) := by
    rw [aOf_g, hg, Layout.block_apply]
    refine congrArg g (funext fun a => ?_); fin_cases a <;> rfl
  have hU (q : Fin 1536) (k : Fin 3072) : (aOf m).u c (ix2 q k) = u (ix2 q (colAt c k)) := by
    rw [aOf_u, hu, Layout.block_apply]
    refine congrArg u (funext fun a => ?_); fin_cases a <;> rfl
  have hD (k : Fin 3072) : (aOf m).d c (ix2 k n) = d (ix2 (colAt c k) n) := by
    rw [aOf_d, hd, Layout.block_apply]
    refine congrArg d (funext fun a => ?_); fin_cases a <;> rfl
  refine Finset.sum_congr rfl fun k _ => ?_
  simp only [hX, hG, hU, hD]

end Cert.KernelIdeal.Mlp

end
-- ==== Proof.lean ====
/- The proof of the certificate's claims: each program's run keeps its arguments and returns every counter to zero; the kernel,
   in exact arithmetic, leaves on every device the reference's result. -/
module

public import proofs.«01_k».proof.Defs
public import proofs.«01_k».proof.Proof.Gen.ReferenceIdeal.Run
public import proofs.«01_k».proof.Proof.Ideal.Launch
public import proofs.«01_k».proof.Proof.Ideal.Value
public import proofs.«01_k».proof.Proof.Word.Launch
public import Idealize.ShloMosaic.Lib.Quiescent

@[expose] public section

namespace Cert.Proof

open Idealize.ShloMosaic Idealize.ShloMosaic.TcCoe Idealize.SL.Sem

theorem frame_kernel : Cert.quiescent_Kernel := fun m ρ _ =>
  θ_run_mono (Cert.Kernel.Mlp.run_all (F := Bits) m ρ) fun _ h => ⟨fun c => (h.1 c).2, h.2⟩

theorem frame_ideal : Cert.quiescent_KernelIdeal := fun m ρ _ =>
  θ_run_mono (Cert.KernelIdeal.Mlp.run_all (F := Ideal) m ρ) fun _ h => ⟨fun c => (h.1 c).2, h.2⟩

theorem frame_reference : Cert.quiescent_ReferenceIdeal := fun m ρ _ =>
  θ_run_mono (Cert.ReferenceIdeal.Value.run (F := Ideal) m ρ) fun r h => ⟨fun c => (h c).2, sem_eq_zero_of_no_sems (by decide) r.2⟩

theorem value : Cert.algebraic_KernelIdeal_ReferenceIdeal := fun m ρ m' ρ' _ hm => by
  refine ⟨_, ?_, θ_run_mono (Cert.ReferenceIdeal.Value.run (F := Ideal) m' ρ') fun r h => h 0⟩
  refine θ_run_mono (Cert.KernelIdeal.Mlp.run_all (F := Ideal) m ρ) fun r h c => ⟨(h.1 c).1.trans ?_, (h.1 c).2⟩
  funext i
  obtain ⟨a, b, rfl⟩ : ∃ (a b : Fin 1536), i = ValueIdx.ix2 a b := ⟨i 0, i 1, ValueIdx.eq_ix2 i⟩
  exact (Cert.KernelIdeal.Mlp.out_apply m _ _ _ _ (fun c => (hm c).1) (fun c => (hm c).2.1) (fun c => (hm c).2.2.1) (fun c => (hm c).2.2.2) a b).trans
    (Cert.KernelIdeal.Mlp.ref_apply _ _ _ _ a b).symm

theorem claim : Cert.Claim :=
  ⟨Kernel.Gen.facts, KernelIdeal.Gen.facts, ReferenceIdeal.Gen.facts, frame_kernel, frame_ideal, frame_reference, trivial, value⟩

end Cert.Proof
